-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "inv_tau" .f32 0x41649249#32 ((134217728 / 9395241 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v598) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S320000x128 : Shape := ⟨2, ![320000, 128]⟩
abbrev S320000 : Shape := ⟨1, ![320000]⟩
abbrev S16x1x20000 : Shape := ⟨3, ![16, 1, 20000]⟩
abbrev S16x128 : Shape := ⟨2, ![16, 128]⟩
abbrev S20000x128 : Shape := ⟨2, ![20000, 128]⟩
abbrev S1x1x20000 : Shape := ⟨3, ![1, 1, 20000]⟩
abbrev S1x20000 : Shape := ⟨2, ![1, 20000]⟩
abbrev S16x20000 : Shape := ⟨2, ![16, 20000]⟩
abbrev S8x128 : Shape := ⟨2, ![8, 128]⟩
abbrev S8x20000 : Shape := ⟨2, ![8, 20000]⟩
abbrev S16 : Shape := ⟨1, ![16]⟩
abbrev S16x1 : Shape := ⟨2, ![16, 1]⟩
abbrev S20000 : Shape := ⟨1, ![20000]⟩
abbrev S8x1 : Shape := ⟨2, ![8, 1]⟩
abbrev S8 : Shape := ⟨1, ![8]⟩
abbrev S_ : Shape := ⟨0, ![]⟩

abbrev nBuf : Space → Nat
  | .hbm => 39
  | .vmem => 20
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S320000, .i32⟩
  | .hbm, ⟨3, _⟩ => ⟨S16x1x20000, .i32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S8x1, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .i1⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8x1, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x1, .f32⟩
  | .hbm, ⟨28, _⟩ => ⟨S8, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S20000x128, .f32⟩
  | .local _ .vmem, ⟨1, _⟩ => ⟨S20000x128, .f32⟩
  | .local _ .vmem, ⟨2, _⟩ => ⟨S20000x128, .f32⟩
  | .local _ .vmem, ⟨3, _⟩ => ⟨S20000x128, .f32⟩
  | .local _ .vmem, ⟨4, _⟩ => ⟨S1x1x20000, .i32⟩
  | .local _ .vmem, ⟨5, _⟩ => ⟨S1x1x20000, .i32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S20000x128, .f32⟩
  | .local _ .vmem, ⟨10, _⟩ => ⟨S20000x128, .f32⟩
  | .local _ .vmem, ⟨11, _⟩ => ⟨S20000x128, .f32⟩
  | .local _ .vmem, ⟨12, _⟩ => ⟨S20000x128, .f32⟩
  | .local _ .vmem, ⟨13, _⟩ => ⟨S1x1x20000, .i32⟩
  | .local _ .vmem, ⟨14, _⟩ => ⟨S1x1x20000, .i32⟩
  | .local _ .vmem, ⟨15, _⟩ => ⟨S16x128, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x20000 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== KernelIdeal.lean ====
variable {F : FTy → Type} [FloatOps F] [Named F]
def κ : String → Option EReal := fun
  | "eps_sq" => some ((5316911940649 / 5316911983139663491615228241121378304 : ℝ) : EReal)
  | "inv_tau" => some ((134217728 / 9395241 : ℝ) : EReal)
  | _ => none
-- ==== ReferenceIdeal.lean ====
abbrev S320000x128 : Shape := ⟨2, ![320000, 128]⟩
abbrev S320000 : Shape := ⟨1, ![320000]⟩
abbrev S_ : Shape := ⟨0, ![]⟩
abbrev S320000x1 : Shape := ⟨2, ![320000, 1]⟩
abbrev S128 : Shape := ⟨1, ![128]⟩
abbrev S1x128 : Shape := ⟨2, ![1, 128]⟩
abbrev S1 : Shape := ⟨1, ![1]⟩
abbrev S1x1 : Shape := ⟨2, ![1, 1]⟩
abbrev S9 : Shape := ⟨1, ![9]⟩
abbrev S9x128 : Shape := ⟨2, ![9, 128]⟩
abbrev S128x1 : Shape := ⟨2, ![128, 1]⟩

abbrev nBuf : Space → Nat
  | .hbm => 843
  | .vmem => 0
  | .smem => 0
  | _ => 0

abbrev hbmTy0_0 (i : Nat) : BufTy := match i % 128 with
  | 0 => ⟨S320000x128, .f32⟩
  | 1 => ⟨S320000x128, .f32⟩
  | 2 => ⟨S320000, .i32⟩
  | 3 => ⟨S320000x128, .f32⟩
  | 4 => ⟨S_, .f32⟩
  | 5 => ⟨S320000, .f32⟩
  | 6 => ⟨S320000x1, .f32⟩
  | 7 => ⟨S320000x1, .f32⟩
  | 8 => ⟨S_, .f32⟩
  | 9 => ⟨S_, .f32⟩
  | 10 => ⟨S320000x1, .f32⟩
  | 11 => ⟨S320000x1, .f32⟩
  | 12 => ⟨S320000x128, .f32⟩
  | 13 => ⟨S320000x128, .f32⟩
  | 14 => ⟨S320000x128, .f32⟩
  | 15 => ⟨S_, .f32⟩
  | 16 => ⟨S320000, .f32⟩
  | 17 => ⟨S320000x1, .f32⟩
  | 18 => ⟨S320000x1, .f32⟩
  | 19 => ⟨S_, .f32⟩
  | 20 => ⟨S_, .f32⟩
  | 21 => ⟨S320000x1, .f32⟩
  | 22 => ⟨S320000x1, .f32⟩
  | 23 => ⟨S320000x128, .f32⟩
  | 24 => ⟨S320000x128, .f32⟩
  | 25 => ⟨S_, .i32⟩
  | 26 => ⟨S320000, .i32⟩
  | 27 => ⟨S320000, .i1⟩
  | 28 => ⟨S320000, .f32⟩
  | 29 => ⟨S320000x1, .f32⟩
  | 30 => ⟨S_, .f32⟩
  | 31 => ⟨S_, .f32⟩
  | 32 => ⟨S320000x128, .f32⟩
  | 33 => ⟨S320000x128, .f32⟩
  | 34 => ⟨S_, .f32⟩
  | 35 => ⟨S128, .f32⟩
  | 36 => ⟨S1x128, .f32⟩
  | 37 => ⟨S1x128, .f32⟩
  | 38 => ⟨S1x128, .f32⟩
  | 39 => ⟨S1x128, .f32⟩
  | 40 => ⟨S_, .f32⟩
  | 41 => ⟨S1, .f32⟩
  | 42 => ⟨S1x1, .f32⟩
  | 43 => ⟨S1x1, .f32⟩
  | 44 => ⟨S_, .f32⟩
  | 45 => ⟨S_, .f32⟩
  | 46 => ⟨S1x1, .f32⟩
  | 47 => ⟨S1x1, .f32⟩
  | 48 => ⟨S1x128, .f32⟩
  | 49 => ⟨S1x128, .f32⟩
  | 50 => ⟨S320000x128, .f32⟩
  | 51 => ⟨S320000x128, .f32⟩
  | 52 => ⟨S_, .f32⟩
  | 53 => ⟨S128, .f32⟩
  | 54 => ⟨S1x128, .f32⟩
  | 55 => ⟨S1x128, .f32⟩
  | 56 => ⟨S1x128, .f32⟩
  | 57 => ⟨S1x128, .f32⟩
  | 58 => ⟨S_, .f32⟩
  | 59 => ⟨S1, .f32⟩
  | 60 => ⟨S1x1, .f32⟩
  | 61 => ⟨S1x1, .f32⟩
  | 62 => ⟨S_, .f32⟩
  | 63 => ⟨S_, .f32⟩
  | 64 => ⟨S1x1, .f32⟩
  | 65 => ⟨S1x1, .f32⟩
  | 66 => ⟨S1x128, .f32⟩
  | 67 => ⟨S1x128, .f32⟩
  | 68 => ⟨S_, .f32⟩
  | 69 => ⟨S320000, .f32⟩
  | 70 => ⟨S_, .f32⟩
  | 71 => ⟨S9, .f32⟩
  | 72 => ⟨S320000x1, .i32⟩
  | 73 => ⟨S9, .f32⟩
  | 74 => ⟨S_, .f32⟩
  | 75 => ⟨S9x128, .f32⟩
  | 76 => ⟨S320000x1, .i32⟩
  | 77 => ⟨S9x128, .f32⟩
  | 78 => ⟨S_, .f32⟩
  | 79 => ⟨S9x128, .f32⟩
  | 80 => ⟨S320000x1, .i32⟩
  | 81 => ⟨S9x128, .f32⟩
  | 82 => ⟨S1, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S_, .i32⟩
  | 90 => ⟨S320000, .i32⟩
  | 91 => ⟨S320000, .i1⟩
  | 92 => ⟨S320000, .f32⟩
  | 93 => ⟨S320000x1, .f32⟩
  | 94 => ⟨S1x128, .f32⟩
  | 95 => ⟨S1x128, .f32⟩
  | 96 => ⟨S1x128, .f32⟩
  | 97 => ⟨S1x128, .f32⟩
  | 98 => ⟨S_, .f32⟩
  | 99 => ⟨S1, .f32⟩
  | 100 => ⟨S1x1, .f32⟩
  | 101 => ⟨S1x1, .f32⟩
  | 102 => ⟨S_, .f32⟩
  | 103 => ⟨S_, .f32⟩
  | 104 => ⟨S1x1, .f32⟩
  | 105 => ⟨S1x1, .f32⟩
  | 106 => ⟨S1x128, .f32⟩
  | 107 => ⟨S1x128, .f32⟩
  | 108 => ⟨S128x1, .f32⟩
  | 109 => ⟨S320000x1, .f32⟩
  | 110 => ⟨S128x1, .f32⟩
  | 111 => ⟨S320000x1, .f32⟩
  | 112 => ⟨S_, .f32⟩
  | 113 => ⟨S320000x1, .f32⟩
  | 114 => ⟨S320000x1, .f32⟩
  | 115 => ⟨S320000x1, .f32⟩
  | 116 => ⟨S_, .f32⟩
  | 117 => ⟨S320000x1, .f32⟩
  | 118 => ⟨S320000x1, .f32⟩
  | 119 => ⟨S320000x1, .f32⟩
  | 120 => ⟨S_, .f32⟩
  | 121 => ⟨S320000x1, .f32⟩
  | 122 => ⟨S320000x1, .f32⟩
  | 123 => ⟨S320000x1, .f32⟩
  | 124 => ⟨S320000x1, .f32⟩
  | 125 => ⟨S320000x1, .f32⟩
  | 126 => ⟨S320000x1, .f32⟩
  | 127 => ⟨S320000x1, .f32⟩
  | _ => ⟨S320000x128, .f32⟩

abbrev hbmTy0_1 (i : Nat) : BufTy := match i % 128 with
  | 0 => ⟨S320000x1, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S_, .f32⟩
  | 14 => ⟨S1, .f32⟩
  | 15 => ⟨S1x1, .f32⟩
  | 16 => ⟨S1x1, .f32⟩
  | 17 => ⟨S_, .f32⟩
  | 18 => ⟨S_, .f32⟩
  | 19 => ⟨S1x1, .f32⟩
  | 20 => ⟨S1x1, .f32⟩
  | 21 => ⟨S1x128, .f32⟩
  | 22 => ⟨S1x128, .f32⟩
  | 23 => ⟨S128x1, .f32⟩
  | 24 => ⟨S320000x1, .f32⟩
  | 25 => ⟨S128x1, .f32⟩
  | 26 => ⟨S320000x1, .f32⟩
  | 27 => ⟨S_, .f32⟩
  | 28 => ⟨S320000x1, .f32⟩
  | 29 => ⟨S320000x1, .f32⟩
  | 30 => ⟨S320000x1, .f32⟩
  | 31 => ⟨S_, .f32⟩
  | 32 => ⟨S320000x1, .f32⟩
  | 33 => ⟨S320000x1, .f32⟩
  | 34 => ⟨S320000x1, .f32⟩
  | 35 => ⟨S_, .f32⟩
  | 36 => ⟨S320000x1, .f32⟩
  | 37 => ⟨S320000x1, .f32⟩
  | 38 => ⟨S320000x1, .f32⟩
  | 39 => ⟨S320000x1, .f32⟩
  | 40 => ⟨S320000x1, .f32⟩
  | 41 => ⟨S320000x1, .f32⟩
  | 42 => ⟨S320000x1, .f32⟩
  | 43 => ⟨S320000x1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S1, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .i32⟩
  | 60 => ⟨S320000, .i32⟩
  | 61 => ⟨S320000, .i1⟩
  | 62 => ⟨S320000, .f32⟩
  | 63 => ⟨S320000x1, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1, .f32⟩
  | 70 => ⟨S1x1, .f32⟩
  | 71 => ⟨S1x1, .f32⟩
  | 72 => ⟨S_, .f32⟩
  | 73 => ⟨S_, .f32⟩
  | 74 => ⟨S1x1, .f32⟩
  | 75 => ⟨S1x1, .f32⟩
  | 76 => ⟨S1x128, .f32⟩
  | 77 => ⟨S1x128, .f32⟩
  | 78 => ⟨S128x1, .f32⟩
  | 79 => ⟨S320000x1, .f32⟩
  | 80 => ⟨S128x1, .f32⟩
  | 81 => ⟨S320000x1, .f32⟩
  | 82 => ⟨S_, .f32⟩
  | 83 => ⟨S320000x1, .f32⟩
  | 84 => ⟨S320000x1, .f32⟩
  | 85 => ⟨S320000x1, .f32⟩
  | 86 => ⟨S_, .f32⟩
  | 87 => ⟨S320000x1, .f32⟩
  | 88 => ⟨S320000x1, .f32⟩
  | 89 => ⟨S320000x1, .f32⟩
  | 90 => ⟨S_, .f32⟩
  | 91 => ⟨S320000x1, .f32⟩
  | 92 => ⟨S320000x1, .f32⟩
  | 93 => ⟨S320000x1, .f32⟩
  | 94 => ⟨S320000x1, .f32⟩
  | 95 => ⟨S320000x1, .f32⟩
  | 96 => ⟨S320000x1, .f32⟩
  | 97 => ⟨S320000x1, .f32⟩
  | 98 => ⟨S320000x1, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S1x128, .f32⟩
  | 106 => ⟨S1x128, .f32⟩
  | 107 => ⟨S1x128, .f32⟩
  | 108 => ⟨S1x128, .f32⟩
  | 109 => ⟨S_, .f32⟩
  | 110 => ⟨S1, .f32⟩
  | 111 => ⟨S1x1, .f32⟩
  | 112 => ⟨S1x1, .f32⟩
  | 113 => ⟨S_, .f32⟩
  | 114 => ⟨S_, .f32⟩
  | 115 => ⟨S1x1, .f32⟩
  | 116 => ⟨S1x1, .f32⟩
  | 117 => ⟨S1x128, .f32⟩
  | 118 => ⟨S1x128, .f32⟩
  | 119 => ⟨S128x1, .f32⟩
  | 120 => ⟨S320000x1, .f32⟩
  | 121 => ⟨S128x1, .f32⟩
  | 122 => ⟨S320000x1, .f32⟩
  | 123 => ⟨S_, .f32⟩
  | 124 => ⟨S320000x1, .f32⟩
  | 125 => ⟨S320000x1, .f32⟩
  | 126 => ⟨S320000x1, .f32⟩
  | 127 => ⟨S_, .f32⟩
  | _ => ⟨S320000x128, .f32⟩

abbrev hbmTy0_2 (i : Nat) : BufTy := match i % 128 with
  | 0 => ⟨S320000x1, .f32⟩
  | 1 => ⟨S320000x1, .f32⟩
  | 2 => ⟨S320000x1, .f32⟩
  | 3 => ⟨S_, .f32⟩
  | 4 => ⟨S320000x1, .f32⟩
  | 5 => ⟨S320000x1, .f32⟩
  | 6 => ⟨S320000x1, .f32⟩
  | 7 => ⟨S320000x1, .f32⟩
  | 8 => ⟨S320000x1, .f32⟩
  | 9 => ⟨S320000x1, .f32⟩
  | 10 => ⟨S320000x1, .f32⟩
  | 11 => ⟨S320000x1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S1, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S_, .i32⟩
  | 26 => ⟨S320000, .i32⟩
  | 27 => ⟨S320000, .i1⟩
  | 28 => ⟨S320000, .f32⟩
  | 29 => ⟨S320000x1, .f32⟩
  | 30 => ⟨S1x128, .f32⟩
  | 31 => ⟨S1x128, .f32⟩
  | 32 => ⟨S1x128, .f32⟩
  | 33 => ⟨S1x128, .f32⟩
  | 34 => ⟨S_, .f32⟩
  | 35 => ⟨S1, .f32⟩
  | 36 => ⟨S1x1, .f32⟩
  | 37 => ⟨S1x1, .f32⟩
  | 38 => ⟨S_, .f32⟩
  | 39 => ⟨S_, .f32⟩
  | 40 => ⟨S1x1, .f32⟩
  | 41 => ⟨S1x1, .f32⟩
  | 42 => ⟨S1x128, .f32⟩
  | 43 => ⟨S1x128, .f32⟩
  | 44 => ⟨S128x1, .f32⟩
  | 45 => ⟨S320000x1, .f32⟩
  | 46 => ⟨S128x1, .f32⟩
  | 47 => ⟨S320000x1, .f32⟩
  | 48 => ⟨S_, .f32⟩
  | 49 => ⟨S320000x1, .f32⟩
  | 50 => ⟨S320000x1, .f32⟩
  | 51 => ⟨S320000x1, .f32⟩
  | 52 => ⟨S_, .f32⟩
  | 53 => ⟨S320000x1, .f32⟩
  | 54 => ⟨S320000x1, .f32⟩
  | 55 => ⟨S320000x1, .f32⟩
  | 56 => ⟨S_, .f32⟩
  | 57 => ⟨S320000x1, .f32⟩
  | 58 => ⟨S320000x1, .f32⟩
  | 59 => ⟨S320000x1, .f32⟩
  | 60 => ⟨S320000x1, .f32⟩
  | 61 => ⟨S320000x1, .f32⟩
  | 62 => ⟨S320000x1, .f32⟩
  | 63 => ⟨S320000x1, .f32⟩
  | 64 => ⟨S320000x1, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S_, .f32⟩
  | 76 => ⟨S1, .f32⟩
  | 77 => ⟨S1x1, .f32⟩
  | 78 => ⟨S1x1, .f32⟩
  | 79 => ⟨S_, .f32⟩
  | 80 => ⟨S_, .f32⟩
  | 81 => ⟨S1x1, .f32⟩
  | 82 => ⟨S1x1, .f32⟩
  | 83 => ⟨S1x128, .f32⟩
  | 84 => ⟨S1x128, .f32⟩
  | 85 => ⟨S128x1, .f32⟩
  | 86 => ⟨S320000x1, .f32⟩
  | 87 => ⟨S128x1, .f32⟩
  | 88 => ⟨S320000x1, .f32⟩
  | 89 => ⟨S_, .f32⟩
  | 90 => ⟨S320000x1, .f32⟩
  | 91 => ⟨S320000x1, .f32⟩
  | 92 => ⟨S320000x1, .f32⟩
  | 93 => ⟨S_, .f32⟩
  | 94 => ⟨S320000x1, .f32⟩
  | 95 => ⟨S320000x1, .f32⟩
  | 96 => ⟨S320000x1, .f32⟩
  | 97 => ⟨S_, .f32⟩
  | 98 => ⟨S320000x1, .f32⟩
  | 99 => ⟨S320000x1, .f32⟩
  | 100 => ⟨S320000x1, .f32⟩
  | 101 => ⟨S320000x1, .f32⟩
  | 102 => ⟨S320000x1, .f32⟩
  | 103 => ⟨S320000x1, .f32⟩
  | 104 => ⟨S320000x1, .f32⟩
  | 105 => ⟨S320000x1, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1, .f32⟩
  | 113 => ⟨S_, .f32⟩
  | 114 => ⟨S_, .f32⟩
  | 115 => ⟨S_, .i1⟩
  | 116 => ⟨S_, .f32⟩
  | 117 => ⟨S_, .f32⟩
  | 118 => ⟨S_, .f32⟩
  | 119 => ⟨S_, .i32⟩
  | 120 => ⟨S320000, .i32⟩
  | 121 => ⟨S320000, .i1⟩
  | 122 => ⟨S320000, .f32⟩
  | 123 => ⟨S320000x1, .f32⟩
  | 124 => ⟨S1x128, .f32⟩
  | 125 => ⟨S1x128, .f32⟩
  | 126 => ⟨S1x128, .f32⟩
  | 127 => ⟨S1x128, .f32⟩
  | _ => ⟨S320000x128, .f32⟩

abbrev hbmTy0_3 (i : Nat) : BufTy := match i % 128 with
  | 0 => ⟨S_, .f32⟩
  | 1 => ⟨S1, .f32⟩
  | 2 => ⟨S1x1, .f32⟩
  | 3 => ⟨S1x1, .f32⟩
  | 4 => ⟨S_, .f32⟩
  | 5 => ⟨S_, .f32⟩
  | 6 => ⟨S1x1, .f32⟩
  | 7 => ⟨S1x1, .f32⟩
  | 8 => ⟨S1x128, .f32⟩
  | 9 => ⟨S1x128, .f32⟩
  | 10 => ⟨S128x1, .f32⟩
  | 11 => ⟨S320000x1, .f32⟩
  | 12 => ⟨S128x1, .f32⟩
  | 13 => ⟨S320000x1, .f32⟩
  | 14 => ⟨S_, .f32⟩
  | 15 => ⟨S320000x1, .f32⟩
  | 16 => ⟨S320000x1, .f32⟩
  | 17 => ⟨S320000x1, .f32⟩
  | 18 => ⟨S_, .f32⟩
  | 19 => ⟨S320000x1, .f32⟩
  | 20 => ⟨S320000x1, .f32⟩
  | 21 => ⟨S320000x1, .f32⟩
  | 22 => ⟨S_, .f32⟩
  | 23 => ⟨S320000x1, .f32⟩
  | 24 => ⟨S320000x1, .f32⟩
  | 25 => ⟨S320000x1, .f32⟩
  | 26 => ⟨S320000x1, .f32⟩
  | 27 => ⟨S320000x1, .f32⟩
  | 28 => ⟨S320000x1, .f32⟩
  | 29 => ⟨S320000x1, .f32⟩
  | 30 => ⟨S320000x1, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x128, .f32⟩
  | 38 => ⟨S1x128, .f32⟩
  | 39 => ⟨S1x128, .f32⟩
  | 40 => ⟨S1x128, .f32⟩
  | 41 => ⟨S_, .f32⟩
  | 42 => ⟨S1, .f32⟩
  | 43 => ⟨S1x1, .f32⟩
  | 44 => ⟨S1x1, .f32⟩
  | 45 => ⟨S_, .f32⟩
  | 46 => ⟨S_, .f32⟩
  | 47 => ⟨S1x1, .f32⟩
  | 48 => ⟨S1x1, .f32⟩
  | 49 => ⟨S1x128, .f32⟩
  | 50 => ⟨S1x128, .f32⟩
  | 51 => ⟨S128x1, .f32⟩
  | 52 => ⟨S320000x1, .f32⟩
  | 53 => ⟨S128x1, .f32⟩
  | 54 => ⟨S320000x1, .f32⟩
  | 55 => ⟨S_, .f32⟩
  | 56 => ⟨S320000x1, .f32⟩
  | 57 => ⟨S320000x1, .f32⟩
  | 58 => ⟨S320000x1, .f32⟩
  | 59 => ⟨S_, .f32⟩
  | 60 => ⟨S320000x1, .f32⟩
  | 61 => ⟨S320000x1, .f32⟩
  | 62 => ⟨S320000x1, .f32⟩
  | 63 => ⟨S_, .f32⟩
  | 64 => ⟨S320000x1, .f32⟩
  | 65 => ⟨S320000x1, .f32⟩
  | 66 => ⟨S320000x1, .f32⟩
  | 67 => ⟨S320000x1, .f32⟩
  | 68 => ⟨S320000x1, .f32⟩
  | 69 => ⟨S320000x1, .f32⟩
  | 70 => ⟨S320000x1, .f32⟩
  | 71 => ⟨S320000x1, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S1, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .i32⟩
  | 86 => ⟨S320000, .i32⟩
  | 87 => ⟨S320000, .i1⟩
  | 88 => ⟨S320000, .f32⟩
  | 89 => ⟨S320000x1, .f32⟩
  | 90 => ⟨S1x128, .f32⟩
  | 91 => ⟨S1x128, .f32⟩
  | 92 => ⟨S1x128, .f32⟩
  | 93 => ⟨S1x128, .f32⟩
  | 94 => ⟨S_, .f32⟩
  | 95 => ⟨S1, .f32⟩
  | 96 => ⟨S1x1, .f32⟩
  | 97 => ⟨S1x1, .f32⟩
  | 98 => ⟨S_, .f32⟩
  | 99 => ⟨S_, .f32⟩
  | 100 => ⟨S1x1, .f32⟩
  | 101 => ⟨S1x1, .f32⟩
  | 102 => ⟨S1x128, .f32⟩
  | 103 => ⟨S1x128, .f32⟩
  | 104 => ⟨S128x1, .f32⟩
  | 105 => ⟨S320000x1, .f32⟩
  | 106 => ⟨S128x1, .f32⟩
  | 107 => ⟨S320000x1, .f32⟩
  | 108 => ⟨S_, .f32⟩
  | 109 => ⟨S320000x1, .f32⟩
  | 110 => ⟨S320000x1, .f32⟩
  | 111 => ⟨S320000x1, .f32⟩
  | 112 => ⟨S_, .f32⟩
  | 113 => ⟨S320000x1, .f32⟩
  | 114 => ⟨S320000x1, .f32⟩
  | 115 => ⟨S320000x1, .f32⟩
  | 116 => ⟨S_, .f32⟩
  | 117 => ⟨S320000x1, .f32⟩
  | 118 => ⟨S320000x1, .f32⟩
  | 119 => ⟨S320000x1, .f32⟩
  | 120 => ⟨S320000x1, .f32⟩
  | 121 => ⟨S320000x1, .f32⟩
  | 122 => ⟨S320000x1, .f32⟩
  | 123 => ⟨S320000x1, .f32⟩
  | 124 => ⟨S320000x1, .f32⟩
  | 125 => ⟨S_, .f32⟩
  | 126 => ⟨S_, .f32⟩
  | 127 => ⟨S_, .f32⟩
  | _ => ⟨S320000x128, .f32⟩

abbrev hbmTy0_4 (i : Nat) : BufTy := match i % 128 with
  | 0 => ⟨S_, .f32⟩
  | 1 => ⟨S_, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S_, .f32⟩
  | 8 => ⟨S1, .f32⟩
  | 9 => ⟨S1x1, .f32⟩
  | 10 => ⟨S1x1, .f32⟩
  | 11 => ⟨S_, .f32⟩
  | 12 => ⟨S_, .f32⟩
  | 13 => ⟨S1x1, .f32⟩
  | 14 => ⟨S1x1, .f32⟩
  | 15 => ⟨S1x128, .f32⟩
  | 16 => ⟨S1x128, .f32⟩
  | 17 => ⟨S128x1, .f32⟩
  | 18 => ⟨S320000x1, .f32⟩
  | 19 => ⟨S128x1, .f32⟩
  | 20 => ⟨S320000x1, .f32⟩
  | 21 => ⟨S_, .f32⟩
  | 22 => ⟨S320000x1, .f32⟩
  | 23 => ⟨S320000x1, .f32⟩
  | 24 => ⟨S320000x1, .f32⟩
  | 25 => ⟨S_, .f32⟩
  | 26 => ⟨S320000x1, .f32⟩
  | 27 => ⟨S320000x1, .f32⟩
  | 28 => ⟨S320000x1, .f32⟩
  | 29 => ⟨S_, .f32⟩
  | 30 => ⟨S320000x1, .f32⟩
  | 31 => ⟨S320000x1, .f32⟩
  | 32 => ⟨S320000x1, .f32⟩
  | 33 => ⟨S320000x1, .f32⟩
  | 34 => ⟨S320000x1, .f32⟩
  | 35 => ⟨S320000x1, .f32⟩
  | 36 => ⟨S320000x1, .f32⟩
  | 37 => ⟨S320000x1, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S1, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .i32⟩
  | 52 => ⟨S320000, .i32⟩
  | 53 => ⟨S320000, .i1⟩
  | 54 => ⟨S320000, .f32⟩
  | 55 => ⟨S320000x1, .f32⟩
  | 56 => ⟨S1x128, .f32⟩
  | 57 => ⟨S1x128, .f32⟩
  | 58 => ⟨S1x128, .f32⟩
  | 59 => ⟨S1x128, .f32⟩
  | 60 => ⟨S_, .f32⟩
  | 61 => ⟨S1, .f32⟩
  | 62 => ⟨S1x1, .f32⟩
  | 63 => ⟨S1x1, .f32⟩
  | 64 => ⟨S_, .f32⟩
  | 65 => ⟨S_, .f32⟩
  | 66 => ⟨S1x1, .f32⟩
  | 67 => ⟨S1x1, .f32⟩
  | 68 => ⟨S1x128, .f32⟩
  | 69 => ⟨S1x128, .f32⟩
  | 70 => ⟨S128x1, .f32⟩
  | 71 => ⟨S320000x1, .f32⟩
  | 72 => ⟨S128x1, .f32⟩
  | 73 => ⟨S320000x1, .f32⟩
  | 74 => ⟨S_, .f32⟩
  | 75 => ⟨S320000x1, .f32⟩
  | 76 => ⟨S320000x1, .f32⟩
  | 77 => ⟨S320000x1, .f32⟩
  | 78 => ⟨S_, .f32⟩
  | 79 => ⟨S320000x1, .f32⟩
  | 80 => ⟨S320000x1, .f32⟩
  | 81 => ⟨S320000x1, .f32⟩
  | 82 => ⟨S_, .f32⟩
  | 83 => ⟨S320000x1, .f32⟩
  | 84 => ⟨S320000x1, .f32⟩
  | 85 => ⟨S320000x1, .f32⟩
  | 86 => ⟨S320000x1, .f32⟩
  | 87 => ⟨S320000x1, .f32⟩
  | 88 => ⟨S320000x1, .f32⟩
  | 89 => ⟨S320000x1, .f32⟩
  | 90 => ⟨S320000x1, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1, .f32⟩
  | 103 => ⟨S1x1, .f32⟩
  | 104 => ⟨S1x1, .f32⟩
  | 105 => ⟨S_, .f32⟩
  | 106 => ⟨S_, .f32⟩
  | 107 => ⟨S1x1, .f32⟩
  | 108 => ⟨S1x1, .f32⟩
  | 109 => ⟨S1x128, .f32⟩
  | 110 => ⟨S1x128, .f32⟩
  | 111 => ⟨S128x1, .f32⟩
  | 112 => ⟨S320000x1, .f32⟩
  | 113 => ⟨S128x1, .f32⟩
  | 114 => ⟨S320000x1, .f32⟩
  | 115 => ⟨S_, .f32⟩
  | 116 => ⟨S320000x1, .f32⟩
  | 117 => ⟨S320000x1, .f32⟩
  | 118 => ⟨S320000x1, .f32⟩
  | 119 => ⟨S_, .f32⟩
  | 120 => ⟨S320000x1, .f32⟩
  | 121 => ⟨S320000x1, .f32⟩
  | 122 => ⟨S320000x1, .f32⟩
  | 123 => ⟨S_, .f32⟩
  | 124 => ⟨S320000x1, .f32⟩
  | 125 => ⟨S320000x1, .f32⟩
  | 126 => ⟨S320000x1, .f32⟩
  | 127 => ⟨S320000x1, .f32⟩
  | _ => ⟨S320000x128, .f32⟩

abbrev hbmTy0_5 (i : Nat) : BufTy := match i % 128 with
  | 0 => ⟨S320000x1, .f32⟩
  | 1 => ⟨S320000x1, .f32⟩
  | 2 => ⟨S320000x1, .f32⟩
  | 3 => ⟨S320000x1, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .i32⟩
  | 18 => ⟨S320000, .i32⟩
  | 19 => ⟨S320000, .i1⟩
  | 20 => ⟨S320000, .f32⟩
  | 21 => ⟨S320000x1, .f32⟩
  | 22 => ⟨S1x128, .f32⟩
  | 23 => ⟨S1x128, .f32⟩
  | 24 => ⟨S1x128, .f32⟩
  | 25 => ⟨S1x128, .f32⟩
  | 26 => ⟨S_, .f32⟩
  | 27 => ⟨S1, .f32⟩
  | 28 => ⟨S1x1, .f32⟩
  | 29 => ⟨S1x1, .f32⟩
  | 30 => ⟨S_, .f32⟩
  | 31 => ⟨S_, .f32⟩
  | 32 => ⟨S1x1, .f32⟩
  | 33 => ⟨S1x1, .f32⟩
  | 34 => ⟨S1x128, .f32⟩
  | 35 => ⟨S1x128, .f32⟩
  | 36 => ⟨S128x1, .f32⟩
  | 37 => ⟨S320000x1, .f32⟩
  | 38 => ⟨S128x1, .f32⟩
  | 39 => ⟨S320000x1, .f32⟩
  | 40 => ⟨S_, .f32⟩
  | 41 => ⟨S320000x1, .f32⟩
  | 42 => ⟨S320000x1, .f32⟩
  | 43 => ⟨S320000x1, .f32⟩
  | 44 => ⟨S_, .f32⟩
  | 45 => ⟨S320000x1, .f32⟩
  | 46 => ⟨S320000x1, .f32⟩
  | 47 => ⟨S320000x1, .f32⟩
  | 48 => ⟨S_, .f32⟩
  | 49 => ⟨S320000x1, .f32⟩
  | 50 => ⟨S320000x1, .f32⟩
  | 51 => ⟨S320000x1, .f32⟩
  | 52 => ⟨S320000x1, .f32⟩
  | 53 => ⟨S320000x1, .f32⟩
  | 54 => ⟨S320000x1, .f32⟩
  | 55 => ⟨S320000x1, .f32⟩
  | 56 => ⟨S320000x1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S_, .f32⟩
  | 68 => ⟨S1, .f32⟩
  | 69 => ⟨S1x1, .f32⟩
  | 70 => ⟨S1x1, .f32⟩
  | 71 => ⟨S_, .f32⟩
  | 72 => ⟨S_, .f32⟩
  | 73 => ⟨S1x1, .f32⟩
  | 74 => ⟨S1x1, .f32⟩
  | 75 => ⟨S1x128, .f32⟩
  | 76 => ⟨S1x128, .f32⟩
  | 77 => ⟨S128x1, .f32⟩
  | 78 => ⟨S320000x1, .f32⟩
  | 79 => ⟨S128x1, .f32⟩
  | 80 => ⟨S320000x1, .f32⟩
  | 81 => ⟨S_, .f32⟩
  | 82 => ⟨S320000x1, .f32⟩
  | 83 => ⟨S320000x1, .f32⟩
  | 84 => ⟨S320000x1, .f32⟩
  | 85 => ⟨S_, .f32⟩
  | 86 => ⟨S320000x1, .f32⟩
  | 87 => ⟨S320000x1, .f32⟩
  | 88 => ⟨S320000x1, .f32⟩
  | 89 => ⟨S_, .f32⟩
  | 90 => ⟨S320000x1, .f32⟩
  | 91 => ⟨S320000x1, .f32⟩
  | 92 => ⟨S320000x1, .f32⟩
  | 93 => ⟨S320000x1, .f32⟩
  | 94 => ⟨S320000x1, .f32⟩
  | 95 => ⟨S320000x1, .f32⟩
  | 96 => ⟨S320000x1, .f32⟩
  | 97 => ⟨S320000x1, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S1, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .i32⟩
  | 112 => ⟨S320000, .i32⟩
  | 113 => ⟨S320000, .i1⟩
  | 114 => ⟨S320000, .f32⟩
  | 115 => ⟨S320000x1, .f32⟩
  | 116 => ⟨S1x128, .f32⟩
  | 117 => ⟨S1x128, .f32⟩
  | 118 => ⟨S1x128, .f32⟩
  | 119 => ⟨S1x128, .f32⟩
  | 120 => ⟨S_, .f32⟩
  | 121 => ⟨S1, .f32⟩
  | 122 => ⟨S1x1, .f32⟩
  | 123 => ⟨S1x1, .f32⟩
  | 124 => ⟨S_, .f32⟩
  | 125 => ⟨S_, .f32⟩
  | 126 => ⟨S1x1, .f32⟩
  | 127 => ⟨S1x1, .f32⟩
  | _ => ⟨S320000x128, .f32⟩

abbrev hbmTy0_6 (i : Nat) : BufTy := match i % 128 with
  | 0 => ⟨S1x128, .f32⟩
  | 1 => ⟨S1x128, .f32⟩
  | 2 => ⟨S128x1, .f32⟩
  | 3 => ⟨S320000x1, .f32⟩
  | 4 => ⟨S128x1, .f32⟩
  | 5 => ⟨S320000x1, .f32⟩
  | 6 => ⟨S_, .f32⟩
  | 7 => ⟨S320000x1, .f32⟩
  | 8 => ⟨S320000x1, .f32⟩
  | 9 => ⟨S320000x1, .f32⟩
  | 10 => ⟨S_, .f32⟩
  | 11 => ⟨S320000x1, .f32⟩
  | 12 => ⟨S320000x1, .f32⟩
  | 13 => ⟨S320000x1, .f32⟩
  | 14 => ⟨S_, .f32⟩
  | 15 => ⟨S320000x1, .f32⟩
  | 16 => ⟨S320000x1, .f32⟩
  | 17 => ⟨S320000x1, .f32⟩
  | 18 => ⟨S320000x1, .f32⟩
  | 19 => ⟨S320000x1, .f32⟩
  | 20 => ⟨S320000x1, .f32⟩
  | 21 => ⟨S320000x1, .f32⟩
  | 22 => ⟨S320000x1, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S_, .f32⟩
  | 34 => ⟨S1, .f32⟩
  | 35 => ⟨S1x1, .f32⟩
  | 36 => ⟨S1x1, .f32⟩
  | 37 => ⟨S_, .f32⟩
  | 38 => ⟨S_, .f32⟩
  | 39 => ⟨S1x1, .f32⟩
  | 40 => ⟨S1x1, .f32⟩
  | 41 => ⟨S1x128, .f32⟩
  | 42 => ⟨S1x128, .f32⟩
  | 43 => ⟨S128x1, .f32⟩
  | 44 => ⟨S320000x1, .f32⟩
  | 45 => ⟨S128x1, .f32⟩
  | 46 => ⟨S320000x1, .f32⟩
  | 47 => ⟨S_, .f32⟩
  | 48 => ⟨S320000x1, .f32⟩
  | 49 => ⟨S320000x1, .f32⟩
  | 50 => ⟨S320000x1, .f32⟩
  | 51 => ⟨S_, .f32⟩
  | 52 => ⟨S320000x1, .f32⟩
  | 53 => ⟨S320000x1, .f32⟩
  | 54 => ⟨S320000x1, .f32⟩
  | 55 => ⟨S_, .f32⟩
  | 56 => ⟨S320000x1, .f32⟩
  | 57 => ⟨S320000x1, .f32⟩
  | 58 => ⟨S320000x1, .f32⟩
  | 59 => ⟨S320000x1, .f32⟩
  | 60 => ⟨S320000x1, .f32⟩
  | 61 => ⟨S320000x1, .f32⟩
  | 62 => ⟨S320000x1, .f32⟩
  | 63 => ⟨S320000x1, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | _ => ⟨S320000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_call2_cst : Ref sig .tc := ⟨.hbm, 15, rfl⟩
abbrev main_call2_v1 : Ref sig .tc := ⟨.hbm, 16, rfl⟩
abbrev main_call2_v2 : Ref sig .tc := ⟨.hbm, 17, rfl⟩
abbrev main_v4 : Ref sig .tc := ⟨.hbm, 18, rfl⟩
abbrev main_cst_0 : Ref sig .tc := ⟨.hbm, 19, rfl⟩
abbrev main_call3_v0 : Ref sig .tc := ⟨.hbm, 20, rfl⟩
abbrev main_call3_v1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call4_v0 : Ref sig .tc := ⟨.hbm, 39, rfl⟩
abbrev main_call4_cst : Ref sig .tc := ⟨.hbm, 40, rfl⟩
abbrev main_call4_v1 : Ref sig .tc := ⟨.hbm, 41, rfl⟩
abbrev main_call4_v2 : Ref sig .tc := ⟨.hbm, 42, rfl⟩
abbrev main_v19 : Ref sig .tc := ⟨.hbm, 43, rfl⟩
abbrev main_cst_3 : Ref sig .tc := ⟨.hbm, 44, rfl⟩
abbrev main_call5_v0 : Ref sig .tc := ⟨.hbm, 45, rfl⟩
abbrev main_call5_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call6_v0 : Ref sig .tc := ⟨.hbm, 57, rfl⟩
abbrev main_call6_cst : Ref sig .tc := ⟨.hbm, 58, rfl⟩
abbrev main_call6_v1 : Ref sig .tc := ⟨.hbm, 59, rfl⟩
abbrev main_call6_v2 : Ref sig .tc := ⟨.hbm, 60, rfl⟩
abbrev main_v29 : Ref sig .tc := ⟨.hbm, 61, rfl⟩
abbrev main_cst_5 : Ref sig .tc := ⟨.hbm, 62, rfl⟩
abbrev main_call7_v0 : Ref sig .tc := ⟨.hbm, 63, rfl⟩
abbrev main_call7_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_6 : Ref sig .tc := ⟨.hbm, 68, rfl⟩
abbrev main_v33 : Ref sig .tc := ⟨.hbm, 69, rfl⟩
abbrev main_cst_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_8 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_10 : Ref sig .tc := ⟨.hbm, 84, rfl⟩
abbrev main_v45 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_c_12 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_call8_v0 : Ref sig .tc := ⟨.hbm, 97, rfl⟩
abbrev main_call8_cst : Ref sig .tc := ⟨.hbm, 98, rfl⟩
abbrev main_call8_v1 : Ref sig .tc := ⟨.hbm, 99, rfl⟩
abbrev main_call8_v2 : Ref sig .tc := ⟨.hbm, 100, rfl⟩
abbrev main_v55 : Ref sig .tc := ⟨.hbm, 101, rfl⟩
abbrev main_cst_13 : Ref sig .tc := ⟨.hbm, 102, rfl⟩
abbrev main_call9_v0 : Ref sig .tc := ⟨.hbm, 103, rfl⟩
abbrev main_call9_v1 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_15 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_16 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_17 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_18 : Ref sig .tc := ⟨.hbm, 133, rfl⟩
abbrev main_v80 : Ref sig .tc := ⟨.hbm, 134, rfl⟩
abbrev main_cst_19 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_call10_v0 : Ref sig .tc := ⟨.hbm, 140, rfl⟩
abbrev main_call10_cst : Ref sig .tc := ⟨.hbm, 141, rfl⟩
abbrev main_call10_v1 : Ref sig .tc := ⟨.hbm, 142, rfl⟩
abbrev main_call10_v2 : Ref sig .tc := ⟨.hbm, 143, rfl⟩
abbrev main_v85 : Ref sig .tc := ⟨.hbm, 144, rfl⟩
abbrev main_cst_20 : Ref sig .tc := ⟨.hbm, 145, rfl⟩
abbrev main_call11_v0 : Ref sig .tc := ⟨.hbm, 146, rfl⟩
abbrev main_call11_v1 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_21 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_22 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_23 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_24 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_25 : Ref sig .tc := ⟨.hbm, 176, rfl⟩
abbrev main_v110 : Ref sig .tc := ⟨.hbm, 177, rfl⟩
abbrev main_cst_26 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_27 : Ref sig .tc := ⟨.hbm, 182, rfl⟩
abbrev main_v114 : Ref sig .tc := ⟨.hbm, 183, rfl⟩
abbrev main_v115 : Ref sig .tc := ⟨.hbm, 184, rfl⟩
abbrev main_cst_28 : Ref sig .tc := ⟨.hbm, 185, rfl⟩
abbrev main_v116 : Ref sig .tc := ⟨.hbm, 186, rfl⟩
abbrev main_c_29 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_call12_v0 : Ref sig .tc := ⟨.hbm, 195, rfl⟩
abbrev main_call12_cst : Ref sig .tc := ⟨.hbm, 196, rfl⟩
abbrev main_call12_v1 : Ref sig .tc := ⟨.hbm, 197, rfl⟩
abbrev main_call12_v2 : Ref sig .tc := ⟨.hbm, 198, rfl⟩
abbrev main_v124 : Ref sig .tc := ⟨.hbm, 199, rfl⟩
abbrev main_cst_30 : Ref sig .tc := ⟨.hbm, 200, rfl⟩
abbrev main_call13_v0 : Ref sig .tc := ⟨.hbm, 201, rfl⟩
abbrev main_call13_v1 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_cst_31 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_32 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_cst_33 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_cst_34 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_call14_v0 : Ref sig .tc := ⟨.hbm, 236, rfl⟩
abbrev main_call14_cst : Ref sig .tc := ⟨.hbm, 237, rfl⟩
abbrev main_call14_v1 : Ref sig .tc := ⟨.hbm, 238, rfl⟩
abbrev main_call14_v2 : Ref sig .tc := ⟨.hbm, 239, rfl⟩
abbrev main_v154 : Ref sig .tc := ⟨.hbm, 240, rfl⟩
abbrev main_cst_35 : Ref sig .tc := ⟨.hbm, 241, rfl⟩
abbrev main_call15_v0 : Ref sig .tc := ⟨.hbm, 242, rfl⟩
abbrev main_call15_v1 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_cst_36 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_cst_37 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_cst_38 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_cst_39 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_40 : Ref sig .tc := ⟨.hbm, 276, rfl⟩
abbrev main_v183 : Ref sig .tc := ⟨.hbm, 277, rfl⟩
abbrev main_v184 : Ref sig .tc := ⟨.hbm, 278, rfl⟩
abbrev main_cst_41 : Ref sig .tc := ⟨.hbm, 279, rfl⟩
abbrev main_v185 : Ref sig .tc := ⟨.hbm, 280, rfl⟩
abbrev main_c_42 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_call16_v0 : Ref sig .tc := ⟨.hbm, 289, rfl⟩
abbrev main_call16_cst : Ref sig .tc := ⟨.hbm, 290, rfl⟩
abbrev main_call16_v1 : Ref sig .tc := ⟨.hbm, 291, rfl⟩
abbrev main_call16_v2 : Ref sig .tc := ⟨.hbm, 292, rfl⟩
abbrev main_v193 : Ref sig .tc := ⟨.hbm, 293, rfl⟩
abbrev main_cst_43 : Ref sig .tc := ⟨.hbm, 294, rfl⟩
abbrev main_call17_v0 : Ref sig .tc := ⟨.hbm, 295, rfl⟩
abbrev main_call17_v1 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_cst_44 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_cst_45 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_cst_46 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩
abbrev main_v214 : Ref sig .tc := ⟨.hbm, 320, rfl⟩
abbrev main_cst_47 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_call18_v0 : Ref sig .tc := ⟨.hbm, 330, rfl⟩
abbrev main_call18_cst : Ref sig .tc := ⟨.hbm, 331, rfl⟩
abbrev main_call18_v1 : Ref sig .tc := ⟨.hbm, 332, rfl⟩
abbrev main_call18_v2 : Ref sig .tc := ⟨.hbm, 333, rfl⟩
abbrev main_v223 : Ref sig .tc := ⟨.hbm, 334, rfl⟩
abbrev main_cst_48 : Ref sig .tc := ⟨.hbm, 335, rfl⟩
abbrev main_call19_v0 : Ref sig .tc := ⟨.hbm, 336, rfl⟩
abbrev main_call19_v1 : Ref sig .tc := ⟨.hbm, 337, rfl⟩
abbrev main_v224 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩
abbrev main_v229 : Ref sig .tc := ⟨.hbm, 343, rfl⟩
abbrev main_v230 : Ref sig .tc := ⟨.hbm, 344, rfl⟩
abbrev main_cst_49 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_cst_50 : Ref sig .tc := ⟨.hbm, 349, rfl⟩
abbrev main_v234 : Ref sig .tc := ⟨.hbm, 350, rfl⟩
abbrev main_v235 : Ref sig .tc := ⟨.hbm, 351, rfl⟩
abbrev main_v236 : Ref sig .tc := ⟨.hbm, 352, rfl⟩
abbrev main_cst_51 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_cst_52 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_cst_53 : Ref sig .tc := ⟨.hbm, 370, rfl⟩
abbrev main_v252 : Ref sig .tc := ⟨.hbm, 371, rfl⟩
abbrev main_v253 : Ref sig .tc := ⟨.hbm, 372, rfl⟩
abbrev main_cst_54 : Ref sig .tc := ⟨.hbm, 373, rfl⟩
abbrev main_v254 : Ref sig .tc := ⟨.hbm, 374, rfl⟩
abbrev main_c_55 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_call20_v0 : Ref sig .tc := ⟨.hbm, 383, rfl⟩
abbrev main_call20_cst : Ref sig .tc := ⟨.hbm, 384, rfl⟩
abbrev main_call20_v1 : Ref sig .tc := ⟨.hbm, 385, rfl⟩
abbrev main_call20_v2 : Ref sig .tc := ⟨.hbm, 386, rfl⟩
abbrev main_v262 : Ref sig .tc := ⟨.hbm, 387, rfl⟩
abbrev main_cst_56 : Ref sig .tc := ⟨.hbm, 388, rfl⟩
abbrev main_call21_v0 : Ref sig .tc := ⟨.hbm, 389, rfl⟩
abbrev main_call21_v1 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_cst_57 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_cst_58 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_cst_59 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_v279 : Ref sig .tc := ⟨.hbm, 410, rfl⟩
abbrev main_v280 : Ref sig .tc := ⟨.hbm, 411, rfl⟩
abbrev main_v281 : Ref sig .tc := ⟨.hbm, 412, rfl⟩
abbrev main_v282 : Ref sig .tc := ⟨.hbm, 413, rfl⟩
abbrev main_v283 : Ref sig .tc := ⟨.hbm, 414, rfl⟩
abbrev main_cst_60 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_v291 : Ref sig .tc := ⟨.hbm, 423, rfl⟩
abbrev main_call22_v0 : Ref sig .tc := ⟨.hbm, 424, rfl⟩
abbrev main_call22_cst : Ref sig .tc := ⟨.hbm, 425, rfl⟩
abbrev main_call22_v1 : Ref sig .tc := ⟨.hbm, 426, rfl⟩
abbrev main_call22_v2 : Ref sig .tc := ⟨.hbm, 427, rfl⟩
abbrev main_v292 : Ref sig .tc := ⟨.hbm, 428, rfl⟩
abbrev main_cst_61 : Ref sig .tc := ⟨.hbm, 429, rfl⟩
abbrev main_call23_v0 : Ref sig .tc := ⟨.hbm, 430, rfl⟩
abbrev main_call23_v1 : Ref sig .tc := ⟨.hbm, 431, rfl⟩
abbrev main_v293 : Ref sig .tc := ⟨.hbm, 432, rfl⟩
abbrev main_v294 : Ref sig .tc := ⟨.hbm, 433, rfl⟩
abbrev main_v295 : Ref sig .tc := ⟨.hbm, 434, rfl⟩
abbrev main_v296 : Ref sig .tc := ⟨.hbm, 435, rfl⟩
abbrev main_v297 : Ref sig .tc := ⟨.hbm, 436, rfl⟩
abbrev main_v298 : Ref sig .tc := ⟨.hbm, 437, rfl⟩
abbrev main_v299 : Ref sig .tc := ⟨.hbm, 438, rfl⟩
abbrev main_cst_62 : Ref sig .tc := ⟨.hbm, 439, rfl⟩
abbrev main_v300 : Ref sig .tc := ⟨.hbm, 440, rfl⟩
abbrev main_v301 : Ref sig .tc := ⟨.hbm, 441, rfl⟩
abbrev main_v302 : Ref sig .tc := ⟨.hbm, 442, rfl⟩
abbrev main_cst_63 : Ref sig .tc := ⟨.hbm, 443, rfl⟩
abbrev main_v303 : Ref sig .tc := ⟨.hbm, 444, rfl⟩
abbrev main_v304 : Ref sig .tc := ⟨.hbm, 445, rfl⟩
abbrev main_v305 : Ref sig .tc := ⟨.hbm, 446, rfl⟩
abbrev main_cst_64 : Ref sig .tc := ⟨.hbm, 447, rfl⟩
abbrev main_v306 : Ref sig .tc := ⟨.hbm, 448, rfl⟩
abbrev main_v307 : Ref sig .tc := ⟨.hbm, 449, rfl⟩
abbrev main_v308 : Ref sig .tc := ⟨.hbm, 450, rfl⟩
abbrev main_v309 : Ref sig .tc := ⟨.hbm, 451, rfl⟩
abbrev main_v310 : Ref sig .tc := ⟨.hbm, 452, rfl⟩
abbrev main_v311 : Ref sig .tc := ⟨.hbm, 453, rfl⟩
abbrev main_v312 : Ref sig .tc := ⟨.hbm, 454, rfl⟩
abbrev main_v313 : Ref sig .tc := ⟨.hbm, 455, rfl⟩
abbrev main_cst_65 : Ref sig .tc := ⟨.hbm, 456, rfl⟩
abbrev main_v314 : Ref sig .tc := ⟨.hbm, 457, rfl⟩
abbrev main_v315 : Ref sig .tc := ⟨.hbm, 458, rfl⟩
abbrev main_v316 : Ref sig .tc := ⟨.hbm, 459, rfl⟩
abbrev main_v317 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_cst_66 : Ref sig .tc := ⟨.hbm, 464, rfl⟩
abbrev main_v321 : Ref sig .tc := ⟨.hbm, 465, rfl⟩
abbrev main_v322 : Ref sig .tc := ⟨.hbm, 466, rfl⟩
abbrev main_cst_67 : Ref sig .tc := ⟨.hbm, 467, rfl⟩
abbrev main_v323 : Ref sig .tc := ⟨.hbm, 468, rfl⟩
abbrev main_c_68 : Ref sig .tc := ⟨.hbm, 469, rfl⟩
abbrev main_v324 : Ref sig .tc := ⟨.hbm, 470, rfl⟩
abbrev main_v325 : Ref sig .tc := ⟨.hbm, 471, rfl⟩
abbrev main_v326 : Ref sig .tc := ⟨.hbm, 472, rfl⟩
abbrev main_v327 : Ref sig .tc := ⟨.hbm, 473, rfl⟩
abbrev main_v328 : Ref sig .tc := ⟨.hbm, 474, rfl⟩
abbrev main_v329 : Ref sig .tc := ⟨.hbm, 475, rfl⟩
abbrev main_v330 : Ref sig .tc := ⟨.hbm, 476, rfl⟩
abbrev main_call24_v0 : Ref sig .tc := ⟨.hbm, 477, rfl⟩
abbrev main_call24_cst : Ref sig .tc := ⟨.hbm, 478, rfl⟩
abbrev main_call24_v1 : Ref sig .tc := ⟨.hbm, 479, rfl⟩
abbrev main_call24_v2 : Ref sig .tc := ⟨.hbm, 480, rfl⟩
abbrev main_v331 : Ref sig .tc := ⟨.hbm, 481, rfl⟩
abbrev main_cst_69 : Ref sig .tc := ⟨.hbm, 482, rfl⟩
abbrev main_call25_v0 : Ref sig .tc := ⟨.hbm, 483, rfl⟩
abbrev main_call25_v1 : Ref sig .tc := ⟨.hbm, 484, rfl⟩
abbrev main_v332 : Ref sig .tc := ⟨.hbm, 485, rfl⟩
abbrev main_v333 : Ref sig .tc := ⟨.hbm, 486, rfl⟩
abbrev main_v334 : Ref sig .tc := ⟨.hbm, 487, rfl⟩
abbrev main_v335 : Ref sig .tc := ⟨.hbm, 488, rfl⟩
abbrev main_v336 : Ref sig .tc := ⟨.hbm, 489, rfl⟩
abbrev main_v337 : Ref sig .tc := ⟨.hbm, 490, rfl⟩
abbrev main_v338 : Ref sig .tc := ⟨.hbm, 491, rfl⟩
abbrev main_cst_70 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_cst_71 : Ref sig .tc := ⟨.hbm, 496, rfl⟩
abbrev main_v342 : Ref sig .tc := ⟨.hbm, 497, rfl⟩
abbrev main_v343 : Ref sig .tc := ⟨.hbm, 498, rfl⟩
abbrev main_v344 : Ref sig .tc := ⟨.hbm, 499, rfl⟩
abbrev main_cst_72 : Ref sig .tc := ⟨.hbm, 500, rfl⟩
abbrev main_v345 : Ref sig .tc := ⟨.hbm, 501, rfl⟩
abbrev main_v346 : Ref sig .tc := ⟨.hbm, 502, rfl⟩
abbrev main_v347 : Ref sig .tc := ⟨.hbm, 503, rfl⟩
abbrev main_v348 : Ref sig .tc := ⟨.hbm, 504, rfl⟩
abbrev main_v349 : Ref sig .tc := ⟨.hbm, 505, rfl⟩
abbrev main_v350 : Ref sig .tc := ⟨.hbm, 506, rfl⟩
abbrev main_v351 : Ref sig .tc := ⟨.hbm, 507, rfl⟩
abbrev main_v352 : Ref sig .tc := ⟨.hbm, 508, rfl⟩
abbrev main_cst_73 : Ref sig .tc := ⟨.hbm, 509, rfl⟩
abbrev main_v353 : Ref sig .tc := ⟨.hbm, 510, rfl⟩
abbrev main_v354 : Ref sig .tc := ⟨.hbm, 511, rfl⟩
abbrev main_v355 : Ref sig .tc := ⟨.hbm, 512, rfl⟩
abbrev main_v356 : Ref sig .tc := ⟨.hbm, 513, rfl⟩
abbrev main_v357 : Ref sig .tc := ⟨.hbm, 514, rfl⟩
abbrev main_v358 : Ref sig .tc := ⟨.hbm, 515, rfl⟩
abbrev main_v359 : Ref sig .tc := ⟨.hbm, 516, rfl⟩
abbrev main_v360 : Ref sig .tc := ⟨.hbm, 517, rfl⟩
abbrev main_call26_v0 : Ref sig .tc := ⟨.hbm, 518, rfl⟩
abbrev main_call26_cst : Ref sig .tc := ⟨.hbm, 519, rfl⟩
abbrev main_call26_v1 : Ref sig .tc := ⟨.hbm, 520, rfl⟩
abbrev main_call26_v2 : Ref sig .tc := ⟨.hbm, 521, rfl⟩
abbrev main_v361 : Ref sig .tc := ⟨.hbm, 522, rfl⟩
abbrev main_cst_74 : Ref sig .tc := ⟨.hbm, 523, rfl⟩
abbrev main_call27_v0 : Ref sig .tc := ⟨.hbm, 524, rfl⟩
abbrev main_call27_v1 : Ref sig .tc := ⟨.hbm, 525, rfl⟩
abbrev main_v362 : Ref sig .tc := ⟨.hbm, 526, rfl⟩
abbrev main_v363 : Ref sig .tc := ⟨.hbm, 527, rfl⟩
abbrev main_v364 : Ref sig .tc := ⟨.hbm, 528, rfl⟩
abbrev main_v365 : Ref sig .tc := ⟨.hbm, 529, rfl⟩
abbrev main_v366 : Ref sig .tc := ⟨.hbm, 530, rfl⟩
abbrev main_v367 : Ref sig .tc := ⟨.hbm, 531, rfl⟩
abbrev main_v368 : Ref sig .tc := ⟨.hbm, 532, rfl⟩
abbrev main_cst_75 : Ref sig .tc := ⟨.hbm, 533, rfl⟩
abbrev main_v369 : Ref sig .tc := ⟨.hbm, 534, rfl⟩
abbrev main_v370 : Ref sig .tc := ⟨.hbm, 535, rfl⟩
abbrev main_v371 : Ref sig .tc := ⟨.hbm, 536, rfl⟩
abbrev main_cst_76 : Ref sig .tc := ⟨.hbm, 537, rfl⟩
abbrev main_v372 : Ref sig .tc := ⟨.hbm, 538, rfl⟩
abbrev main_v373 : Ref sig .tc := ⟨.hbm, 539, rfl⟩
abbrev main_v374 : Ref sig .tc := ⟨.hbm, 540, rfl⟩
abbrev main_cst_77 : Ref sig .tc := ⟨.hbm, 541, rfl⟩
abbrev main_v375 : Ref sig .tc := ⟨.hbm, 542, rfl⟩
abbrev main_v376 : Ref sig .tc := ⟨.hbm, 543, rfl⟩
abbrev main_v377 : Ref sig .tc := ⟨.hbm, 544, rfl⟩
abbrev main_v378 : Ref sig .tc := ⟨.hbm, 545, rfl⟩
abbrev main_v379 : Ref sig .tc := ⟨.hbm, 546, rfl⟩
abbrev main_v380 : Ref sig .tc := ⟨.hbm, 547, rfl⟩
abbrev main_v381 : Ref sig .tc := ⟨.hbm, 548, rfl⟩
abbrev main_v382 : Ref sig .tc := ⟨.hbm, 549, rfl⟩
abbrev main_cst_78 : Ref sig .tc := ⟨.hbm, 550, rfl⟩
abbrev main_v383 : Ref sig .tc := ⟨.hbm, 551, rfl⟩
abbrev main_v384 : Ref sig .tc := ⟨.hbm, 552, rfl⟩
abbrev main_v385 : Ref sig .tc := ⟨.hbm, 553, rfl⟩
abbrev main_v386 : Ref sig .tc := ⟨.hbm, 554, rfl⟩
abbrev main_v387 : Ref sig .tc := ⟨.hbm, 555, rfl⟩
abbrev main_v388 : Ref sig .tc := ⟨.hbm, 556, rfl⟩
abbrev main_v389 : Ref sig .tc := ⟨.hbm, 557, rfl⟩
abbrev main_cst_79 : Ref sig .tc := ⟨.hbm, 558, rfl⟩
abbrev main_v390 : Ref sig .tc := ⟨.hbm, 559, rfl⟩
abbrev main_v391 : Ref sig .tc := ⟨.hbm, 560, rfl⟩
abbrev main_cst_80 : Ref sig .tc := ⟨.hbm, 561, rfl⟩
abbrev main_v392 : Ref sig .tc := ⟨.hbm, 562, rfl⟩
abbrev main_c_81 : Ref sig .tc := ⟨.hbm, 563, rfl⟩
abbrev main_v393 : Ref sig .tc := ⟨.hbm, 564, rfl⟩
abbrev main_v394 : Ref sig .tc := ⟨.hbm, 565, rfl⟩
abbrev main_v395 : Ref sig .tc := ⟨.hbm, 566, rfl⟩
abbrev main_v396 : Ref sig .tc := ⟨.hbm, 567, rfl⟩
abbrev main_v397 : Ref sig .tc := ⟨.hbm, 568, rfl⟩
abbrev main_v398 : Ref sig .tc := ⟨.hbm, 569, rfl⟩
abbrev main_v399 : Ref sig .tc := ⟨.hbm, 570, rfl⟩
abbrev main_call28_v0 : Ref sig .tc := ⟨.hbm, 571, rfl⟩
abbrev main_call28_cst : Ref sig .tc := ⟨.hbm, 572, rfl⟩
abbrev main_call28_v1 : Ref sig .tc := ⟨.hbm, 573, rfl⟩
abbrev main_call28_v2 : Ref sig .tc := ⟨.hbm, 574, rfl⟩
abbrev main_v400 : Ref sig .tc := ⟨.hbm, 575, rfl⟩
abbrev main_cst_82 : Ref sig .tc := ⟨.hbm, 576, rfl⟩
abbrev main_call29_v0 : Ref sig .tc := ⟨.hbm, 577, rfl⟩
abbrev main_call29_v1 : Ref sig .tc := ⟨.hbm, 578, rfl⟩
abbrev main_v401 : Ref sig .tc := ⟨.hbm, 579, rfl⟩
abbrev main_v402 : Ref sig .tc := ⟨.hbm, 580, rfl⟩
abbrev main_v403 : Ref sig .tc := ⟨.hbm, 581, rfl⟩
abbrev main_v404 : Ref sig .tc := ⟨.hbm, 582, rfl⟩
abbrev main_v405 : Ref sig .tc := ⟨.hbm, 583, rfl⟩
abbrev main_v406 : Ref sig .tc := ⟨.hbm, 584, rfl⟩
abbrev main_v407 : Ref sig .tc := ⟨.hbm, 585, rfl⟩
abbrev main_cst_83 : Ref sig .tc := ⟨.hbm, 586, rfl⟩
abbrev main_v408 : Ref sig .tc := ⟨.hbm, 587, rfl⟩
abbrev main_v409 : Ref sig .tc := ⟨.hbm, 588, rfl⟩
abbrev main_v410 : Ref sig .tc := ⟨.hbm, 589, rfl⟩
abbrev main_cst_84 : Ref sig .tc := ⟨.hbm, 590, rfl⟩
abbrev main_v411 : Ref sig .tc := ⟨.hbm, 591, rfl⟩
abbrev main_v412 : Ref sig .tc := ⟨.hbm, 592, rfl⟩
abbrev main_v413 : Ref sig .tc := ⟨.hbm, 593, rfl⟩
abbrev main_cst_85 : Ref sig .tc := ⟨.hbm, 594, rfl⟩
abbrev main_v414 : Ref sig .tc := ⟨.hbm, 595, rfl⟩
abbrev main_v415 : Ref sig .tc := ⟨.hbm, 596, rfl⟩
abbrev main_v416 : Ref sig .tc := ⟨.hbm, 597, rfl⟩
abbrev main_v417 : Ref sig .tc := ⟨.hbm, 598, rfl⟩
abbrev main_v418 : Ref sig .tc := ⟨.hbm, 599, rfl⟩
abbrev main_v419 : Ref sig .tc := ⟨.hbm, 600, rfl⟩
abbrev main_v420 : Ref sig .tc := ⟨.hbm, 601, rfl⟩
abbrev main_v421 : Ref sig .tc := ⟨.hbm, 602, rfl⟩
abbrev main_cst_86 : Ref sig .tc := ⟨.hbm, 603, rfl⟩
abbrev main_v422 : Ref sig .tc := ⟨.hbm, 604, rfl⟩
abbrev main_v423 : Ref sig .tc := ⟨.hbm, 605, rfl⟩
abbrev main_v424 : Ref sig .tc := ⟨.hbm, 606, rfl⟩
abbrev main_v425 : Ref sig .tc := ⟨.hbm, 607, rfl⟩
abbrev main_v426 : Ref sig .tc := ⟨.hbm, 608, rfl⟩
abbrev main_v427 : Ref sig .tc := ⟨.hbm, 609, rfl⟩
abbrev main_v428 : Ref sig .tc := ⟨.hbm, 610, rfl⟩
abbrev main_v429 : Ref sig .tc := ⟨.hbm, 611, rfl⟩
abbrev main_call30_v0 : Ref sig .tc := ⟨.hbm, 612, rfl⟩
abbrev main_call30_cst : Ref sig .tc := ⟨.hbm, 613, rfl⟩
abbrev main_call30_v1 : Ref sig .tc := ⟨.hbm, 614, rfl⟩
abbrev main_call30_v2 : Ref sig .tc := ⟨.hbm, 615, rfl⟩
abbrev main_v430 : Ref sig .tc := ⟨.hbm, 616, rfl⟩
abbrev main_cst_87 : Ref sig .tc := ⟨.hbm, 617, rfl⟩
abbrev main_call31_v0 : Ref sig .tc := ⟨.hbm, 618, rfl⟩
abbrev main_call31_v1 : Ref sig .tc := ⟨.hbm, 619, rfl⟩
abbrev main_v431 : Ref sig .tc := ⟨.hbm, 620, rfl⟩
abbrev main_v432 : Ref sig .tc := ⟨.hbm, 621, rfl⟩
abbrev main_v433 : Ref sig .tc := ⟨.hbm, 622, rfl⟩
abbrev main_v434 : Ref sig .tc := ⟨.hbm, 623, rfl⟩
abbrev main_v435 : Ref sig .tc := ⟨.hbm, 624, rfl⟩
abbrev main_v436 : Ref sig .tc := ⟨.hbm, 625, rfl⟩
abbrev main_v437 : Ref sig .tc := ⟨.hbm, 626, rfl⟩
abbrev main_cst_88 : Ref sig .tc := ⟨.hbm, 627, rfl⟩
abbrev main_v438 : Ref sig .tc := ⟨.hbm, 628, rfl⟩
abbrev main_v439 : Ref sig .tc := ⟨.hbm, 629, rfl⟩
abbrev main_v440 : Ref sig .tc := ⟨.hbm, 630, rfl⟩
abbrev main_cst_89 : Ref sig .tc := ⟨.hbm, 631, rfl⟩
abbrev main_v441 : Ref sig .tc := ⟨.hbm, 632, rfl⟩
abbrev main_v442 : Ref sig .tc := ⟨.hbm, 633, rfl⟩
abbrev main_v443 : Ref sig .tc := ⟨.hbm, 634, rfl⟩
abbrev main_cst_90 : Ref sig .tc := ⟨.hbm, 635, rfl⟩
abbrev main_v444 : Ref sig .tc := ⟨.hbm, 636, rfl⟩
abbrev main_v445 : Ref sig .tc := ⟨.hbm, 637, rfl⟩
abbrev main_v446 : Ref sig .tc := ⟨.hbm, 638, rfl⟩
abbrev main_v447 : Ref sig .tc := ⟨.hbm, 639, rfl⟩
abbrev main_v448 : Ref sig .tc := ⟨.hbm, 640, rfl⟩
abbrev main_v449 : Ref sig .tc := ⟨.hbm, 641, rfl⟩
abbrev main_v450 : Ref sig .tc := ⟨.hbm, 642, rfl⟩
abbrev main_v451 : Ref sig .tc := ⟨.hbm, 643, rfl⟩
abbrev main_cst_91 : Ref sig .tc := ⟨.hbm, 644, rfl⟩
abbrev main_v452 : Ref sig .tc := ⟨.hbm, 645, rfl⟩
abbrev main_v453 : Ref sig .tc := ⟨.hbm, 646, rfl⟩
abbrev main_v454 : Ref sig .tc := ⟨.hbm, 647, rfl⟩
abbrev main_v455 : Ref sig .tc := ⟨.hbm, 648, rfl⟩
abbrev main_v456 : Ref sig .tc := ⟨.hbm, 649, rfl⟩
abbrev main_v457 : Ref sig .tc := ⟨.hbm, 650, rfl⟩
abbrev main_v458 : Ref sig .tc := ⟨.hbm, 651, rfl⟩
abbrev main_cst_92 : Ref sig .tc := ⟨.hbm, 652, rfl⟩
abbrev main_v459 : Ref sig .tc := ⟨.hbm, 653, rfl⟩
abbrev main_v460 : Ref sig .tc := ⟨.hbm, 654, rfl⟩
abbrev main_cst_93 : Ref sig .tc := ⟨.hbm, 655, rfl⟩
abbrev main_v461 : Ref sig .tc := ⟨.hbm, 656, rfl⟩
abbrev main_c_94 : Ref sig .tc := ⟨.hbm, 657, rfl⟩
abbrev main_v462 : Ref sig .tc := ⟨.hbm, 658, rfl⟩
abbrev main_v463 : Ref sig .tc := ⟨.hbm, 659, rfl⟩
abbrev main_v464 : Ref sig .tc := ⟨.hbm, 660, rfl⟩
abbrev main_v465 : Ref sig .tc := ⟨.hbm, 661, rfl⟩
abbrev main_v466 : Ref sig .tc := ⟨.hbm, 662, rfl⟩
abbrev main_v467 : Ref sig .tc := ⟨.hbm, 663, rfl⟩
abbrev main_v468 : Ref sig .tc := ⟨.hbm, 664, rfl⟩
abbrev main_call32_v0 : Ref sig .tc := ⟨.hbm, 665, rfl⟩
abbrev main_call32_cst : Ref sig .tc := ⟨.hbm, 666, rfl⟩
abbrev main_call32_v1 : Ref sig .tc := ⟨.hbm, 667, rfl⟩
abbrev main_call32_v2 : Ref sig .tc := ⟨.hbm, 668, rfl⟩
abbrev main_v469 : Ref sig .tc := ⟨.hbm, 669, rfl⟩
abbrev main_cst_95 : Ref sig .tc := ⟨.hbm, 670, rfl⟩
abbrev main_call33_v0 : Ref sig .tc := ⟨.hbm, 671, rfl⟩
abbrev main_call33_v1 : Ref sig .tc := ⟨.hbm, 672, rfl⟩
abbrev main_v470 : Ref sig .tc := ⟨.hbm, 673, rfl⟩
abbrev main_v471 : Ref sig .tc := ⟨.hbm, 674, rfl⟩
abbrev main_v472 : Ref sig .tc := ⟨.hbm, 675, rfl⟩
abbrev main_v473 : Ref sig .tc := ⟨.hbm, 676, rfl⟩
abbrev main_v474 : Ref sig .tc := ⟨.hbm, 677, rfl⟩
abbrev main_v475 : Ref sig .tc := ⟨.hbm, 678, rfl⟩
abbrev main_v476 : Ref sig .tc := ⟨.hbm, 679, rfl⟩
abbrev main_cst_96 : Ref sig .tc := ⟨.hbm, 680, rfl⟩
abbrev main_v477 : Ref sig .tc := ⟨.hbm, 681, rfl⟩
abbrev main_v478 : Ref sig .tc := ⟨.hbm, 682, rfl⟩
abbrev main_v479 : Ref sig .tc := ⟨.hbm, 683, rfl⟩
abbrev main_cst_97 : Ref sig .tc := ⟨.hbm, 684, rfl⟩
abbrev main_v480 : Ref sig .tc := ⟨.hbm, 685, rfl⟩
abbrev main_v481 : Ref sig .tc := ⟨.hbm, 686, rfl⟩
abbrev main_v482 : Ref sig .tc := ⟨.hbm, 687, rfl⟩
abbrev main_cst_98 : Ref sig .tc := ⟨.hbm, 688, rfl⟩
abbrev main_v483 : Ref sig .tc := ⟨.hbm, 689, rfl⟩
abbrev main_v484 : Ref sig .tc := ⟨.hbm, 690, rfl⟩
abbrev main_v485 : Ref sig .tc := ⟨.hbm, 691, rfl⟩
abbrev main_v486 : Ref sig .tc := ⟨.hbm, 692, rfl⟩
abbrev main_v487 : Ref sig .tc := ⟨.hbm, 693, rfl⟩
abbrev main_v488 : Ref sig .tc := ⟨.hbm, 694, rfl⟩
abbrev main_v489 : Ref sig .tc := ⟨.hbm, 695, rfl⟩
abbrev main_v490 : Ref sig .tc := ⟨.hbm, 696, rfl⟩
abbrev main_cst_99 : Ref sig .tc := ⟨.hbm, 697, rfl⟩
abbrev main_v491 : Ref sig .tc := ⟨.hbm, 698, rfl⟩
abbrev main_v492 : Ref sig .tc := ⟨.hbm, 699, rfl⟩
abbrev main_v493 : Ref sig .tc := ⟨.hbm, 700, rfl⟩
abbrev main_v494 : Ref sig .tc := ⟨.hbm, 701, rfl⟩
abbrev main_v495 : Ref sig .tc := ⟨.hbm, 702, rfl⟩
abbrev main_v496 : Ref sig .tc := ⟨.hbm, 703, rfl⟩
abbrev main_v497 : Ref sig .tc := ⟨.hbm, 704, rfl⟩
abbrev main_v498 : Ref sig .tc := ⟨.hbm, 705, rfl⟩
abbrev main_call34_v0 : Ref sig .tc := ⟨.hbm, 706, rfl⟩
abbrev main_call34_cst : Ref sig .tc := ⟨.hbm, 707, rfl⟩
abbrev main_call34_v1 : Ref sig .tc := ⟨.hbm, 708, rfl⟩
abbrev main_call34_v2 : Ref sig .tc := ⟨.hbm, 709, rfl⟩
abbrev main_v499 : Ref sig .tc := ⟨.hbm, 710, rfl⟩
abbrev main_cst_100 : Ref sig .tc := ⟨.hbm, 711, rfl⟩
abbrev main_call35_v0 : Ref sig .tc := ⟨.hbm, 712, rfl⟩
abbrev main_call35_v1 : Ref sig .tc := ⟨.hbm, 713, rfl⟩
abbrev main_v500 : Ref sig .tc := ⟨.hbm, 714, rfl⟩
abbrev main_v501 : Ref sig .tc := ⟨.hbm, 715, rfl⟩
abbrev main_v502 : Ref sig .tc := ⟨.hbm, 716, rfl⟩
abbrev main_v503 : Ref sig .tc := ⟨.hbm, 717, rfl⟩
abbrev main_v504 : Ref sig .tc := ⟨.hbm, 718, rfl⟩
abbrev main_v505 : Ref sig .tc := ⟨.hbm, 719, rfl⟩
abbrev main_v506 : Ref sig .tc := ⟨.hbm, 720, rfl⟩
abbrev main_cst_101 : Ref sig .tc := ⟨.hbm, 721, rfl⟩
abbrev main_v507 : Ref sig .tc := ⟨.hbm, 722, rfl⟩
abbrev main_v508 : Ref sig .tc := ⟨.hbm, 723, rfl⟩
abbrev main_v509 : Ref sig .tc := ⟨.hbm, 724, rfl⟩
abbrev main_cst_102 : Ref sig .tc := ⟨.hbm, 725, rfl⟩
abbrev main_v510 : Ref sig .tc := ⟨.hbm, 726, rfl⟩
abbrev main_v511 : Ref sig .tc := ⟨.hbm, 727, rfl⟩
abbrev main_v512 : Ref sig .tc := ⟨.hbm, 728, rfl⟩
abbrev main_cst_103 : Ref sig .tc := ⟨.hbm, 729, rfl⟩
abbrev main_v513 : Ref sig .tc := ⟨.hbm, 730, rfl⟩
abbrev main_v514 : Ref sig .tc := ⟨.hbm, 731, rfl⟩
abbrev main_v515 : Ref sig .tc := ⟨.hbm, 732, rfl⟩
abbrev main_v516 : Ref sig .tc := ⟨.hbm, 733, rfl⟩
abbrev main_v517 : Ref sig .tc := ⟨.hbm, 734, rfl⟩
abbrev main_v518 : Ref sig .tc := ⟨.hbm, 735, rfl⟩
abbrev main_v519 : Ref sig .tc := ⟨.hbm, 736, rfl⟩
abbrev main_v520 : Ref sig .tc := ⟨.hbm, 737, rfl⟩
abbrev main_cst_104 : Ref sig .tc := ⟨.hbm, 738, rfl⟩
abbrev main_v521 : Ref sig .tc := ⟨.hbm, 739, rfl⟩
abbrev main_v522 : Ref sig .tc := ⟨.hbm, 740, rfl⟩
abbrev main_v523 : Ref sig .tc := ⟨.hbm, 741, rfl⟩
abbrev main_v524 : Ref sig .tc := ⟨.hbm, 742, rfl⟩
abbrev main_v525 : Ref sig .tc := ⟨.hbm, 743, rfl⟩
abbrev main_v526 : Ref sig .tc := ⟨.hbm, 744, rfl⟩
abbrev main_v527 : Ref sig .tc := ⟨.hbm, 745, rfl⟩
abbrev main_cst_105 : Ref sig .tc := ⟨.hbm, 746, rfl⟩
abbrev main_v528 : Ref sig .tc := ⟨.hbm, 747, rfl⟩
abbrev main_v529 : Ref sig .tc := ⟨.hbm, 748, rfl⟩
abbrev main_cst_106 : Ref sig .tc := ⟨.hbm, 749, rfl⟩
abbrev main_v530 : Ref sig .tc := ⟨.hbm, 750, rfl⟩
abbrev main_c_107 : Ref sig .tc := ⟨.hbm, 751, rfl⟩
abbrev main_v531 : Ref sig .tc := ⟨.hbm, 752, rfl⟩
abbrev main_v532 : Ref sig .tc := ⟨.hbm, 753, rfl⟩
abbrev main_v533 : Ref sig .tc := ⟨.hbm, 754, rfl⟩
abbrev main_v534 : Ref sig .tc := ⟨.hbm, 755, rfl⟩
abbrev main_v535 : Ref sig .tc := ⟨.hbm, 756, rfl⟩
abbrev main_v536 : Ref sig .tc := ⟨.hbm, 757, rfl⟩
abbrev main_v537 : Ref sig .tc := ⟨.hbm, 758, rfl⟩
abbrev main_call36_v0 : Ref sig .tc := ⟨.hbm, 759, rfl⟩
abbrev main_call36_cst : Ref sig .tc := ⟨.hbm, 760, rfl⟩
abbrev main_call36_v1 : Ref sig .tc := ⟨.hbm, 761, rfl⟩
abbrev main_call36_v2 : Ref sig .tc := ⟨.hbm, 762, rfl⟩
abbrev main_v538 : Ref sig .tc := ⟨.hbm, 763, rfl⟩
abbrev main_cst_108 : Ref sig .tc := ⟨.hbm, 764, rfl⟩
abbrev main_call37_v0 : Ref sig .tc := ⟨.hbm, 765, rfl⟩
abbrev main_call37_v1 : Ref sig .tc := ⟨.hbm, 766, rfl⟩
abbrev main_v539 : Ref sig .tc := ⟨.hbm, 767, rfl⟩
abbrev main_v540 : Ref sig .tc := ⟨.hbm, 768, rfl⟩
abbrev main_v541 : Ref sig .tc := ⟨.hbm, 769, rfl⟩
abbrev main_v542 : Ref sig .tc := ⟨.hbm, 770, rfl⟩
abbrev main_v543 : Ref sig .tc := ⟨.hbm, 771, rfl⟩
abbrev main_v544 : Ref sig .tc := ⟨.hbm, 772, rfl⟩
abbrev main_v545 : Ref sig .tc := ⟨.hbm, 773, rfl⟩
abbrev main_cst_109 : Ref sig .tc := ⟨.hbm, 774, rfl⟩
abbrev main_v546 : Ref sig .tc := ⟨.hbm, 775, rfl⟩
abbrev main_v547 : Ref sig .tc := ⟨.hbm, 776, rfl⟩
abbrev main_v548 : Ref sig .tc := ⟨.hbm, 777, rfl⟩
abbrev main_cst_110 : Ref sig .tc := ⟨.hbm, 778, rfl⟩
abbrev main_v549 : Ref sig .tc := ⟨.hbm, 779, rfl⟩
abbrev main_v550 : Ref sig .tc := ⟨.hbm, 780, rfl⟩
abbrev main_v551 : Ref sig .tc := ⟨.hbm, 781, rfl⟩
abbrev main_cst_111 : Ref sig .tc := ⟨.hbm, 782, rfl⟩
abbrev main_v552 : Ref sig .tc := ⟨.hbm, 783, rfl⟩
abbrev main_v553 : Ref sig .tc := ⟨.hbm, 784, rfl⟩
abbrev main_v554 : Ref sig .tc := ⟨.hbm, 785, rfl⟩
abbrev main_v555 : Ref sig .tc := ⟨.hbm, 786, rfl⟩
abbrev main_v556 : Ref sig .tc := ⟨.hbm, 787, rfl⟩
abbrev main_v557 : Ref sig .tc := ⟨.hbm, 788, rfl⟩
abbrev main_v558 : Ref sig .tc := ⟨.hbm, 789, rfl⟩
abbrev main_v559 : Ref sig .tc := ⟨.hbm, 790, rfl⟩
abbrev main_cst_112 : Ref sig .tc := ⟨.hbm, 791, rfl⟩
abbrev main_v560 : Ref sig .tc := ⟨.hbm, 792, rfl⟩
abbrev main_v561 : Ref sig .tc := ⟨.hbm, 793, rfl⟩
abbrev main_v562 : Ref sig .tc := ⟨.hbm, 794, rfl⟩
abbrev main_v563 : Ref sig .tc := ⟨.hbm, 795, rfl⟩
abbrev main_v564 : Ref sig .tc := ⟨.hbm, 796, rfl⟩
abbrev main_v565 : Ref sig .tc := ⟨.hbm, 797, rfl⟩
abbrev main_v566 : Ref sig .tc := ⟨.hbm, 798, rfl⟩
abbrev main_v567 : Ref sig .tc := ⟨.hbm, 799, rfl⟩
abbrev main_call38_v0 : Ref sig .tc := ⟨.hbm, 800, rfl⟩
abbrev main_call38_cst : Ref sig .tc := ⟨.hbm, 801, rfl⟩
abbrev main_call38_v1 : Ref sig .tc := ⟨.hbm, 802, rfl⟩
abbrev main_call38_v2 : Ref sig .tc := ⟨.hbm, 803, rfl⟩
abbrev main_v568 : Ref sig .tc := ⟨.hbm, 804, rfl⟩
abbrev main_cst_113 : Ref sig .tc := ⟨.hbm, 805, rfl⟩
abbrev main_call39_v0 : Ref sig .tc := ⟨.hbm, 806, rfl⟩
abbrev main_call39_v1 : Ref sig .tc := ⟨.hbm, 807, rfl⟩
abbrev main_v569 : Ref sig .tc := ⟨.hbm, 808, rfl⟩
abbrev main_v570 : Ref sig .tc := ⟨.hbm, 809, rfl⟩
abbrev main_v571 : Ref sig .tc := ⟨.hbm, 810, rfl⟩
abbrev main_v572 : Ref sig .tc := ⟨.hbm, 811, rfl⟩
abbrev main_v573 : Ref sig .tc := ⟨.hbm, 812, rfl⟩
abbrev main_v574 : Ref sig .tc := ⟨.hbm, 813, rfl⟩
abbrev main_v575 : Ref sig .tc := ⟨.hbm, 814, rfl⟩
abbrev main_cst_114 : Ref sig .tc := ⟨.hbm, 815, rfl⟩
abbrev main_v576 : Ref sig .tc := ⟨.hbm, 816, rfl⟩
abbrev main_v577 : Ref sig .tc := ⟨.hbm, 817, rfl⟩
abbrev main_v578 : Ref sig .tc := ⟨.hbm, 818, rfl⟩
abbrev main_cst_115 : Ref sig .tc := ⟨.hbm, 819, rfl⟩
abbrev main_v579 : Ref sig .tc := ⟨.hbm, 820, rfl⟩
abbrev main_v580 : Ref sig .tc := ⟨.hbm, 821, rfl⟩
abbrev main_v581 : Ref sig .tc := ⟨.hbm, 822, rfl⟩
abbrev main_cst_116 : Ref sig .tc := ⟨.hbm, 823, rfl⟩
abbrev main_v582 : Ref sig .tc := ⟨.hbm, 824, rfl⟩
abbrev main_v583 : Ref sig .tc := ⟨.hbm, 825, rfl⟩
abbrev main_v584 : Ref sig .tc := ⟨.hbm, 826, rfl⟩
abbrev main_v585 : Ref sig .tc := ⟨.hbm, 827, rfl⟩
abbrev main_v586 : Ref sig .tc := ⟨.hbm, 828, rfl⟩
abbrev main_v587 : Ref sig .tc := ⟨.hbm, 829, rfl⟩
abbrev main_v588 : Ref sig .tc := ⟨.hbm, 830, rfl⟩
abbrev main_v589 : Ref sig .tc := ⟨.hbm, 831, rfl⟩
abbrev main_cst_117 : Ref sig .tc := ⟨.hbm, 832, rfl⟩
abbrev main_v590 : Ref sig .tc := ⟨.hbm, 833, rfl⟩
abbrev main_v591 : Ref sig .tc := ⟨.hbm, 834, rfl⟩
abbrev main_v592 : Ref sig .tc := ⟨.hbm, 835, rfl⟩
abbrev main_v593 : Ref sig .tc := ⟨.hbm, 836, rfl⟩
abbrev main_v594 : Ref sig .tc := ⟨.hbm, 837, rfl⟩
abbrev main_v595 : Ref sig .tc := ⟨.hbm, 838, rfl⟩
abbrev main_v596 : Ref sig .tc := ⟨.hbm, 839, rfl⟩
abbrev main_cst_118 : Ref sig .tc := ⟨.hbm, 840, rfl⟩
abbrev main_v597 : Ref sig .tc := ⟨.hbm, 841, rfl⟩
abbrev main_v598 : Ref sig .tc := ⟨.hbm, 842, rfl⟩

abbrev nD : Nat := 1
abbrev τ : Topo := Topo.v7x

variable {F : FTy → Type} [FloatOps F]
-- ==== Proof.KernelRun.lean ====
/- The kernel's run with its result named. The launch's set-up is the generated frame's (Gen/KernelIdeal/Frame.lean):
   the same segments and resources; only what is read off the final state differs, since the value claim also needs
   the result buffer. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

-- unifying the launch theorem's conclusion with this one takes unfolding plain definitions in a metavariable's type
set_option backward.isDefEq.respectTransparency.types false in
/-- From any memory the kernel program terminates; its result buffer then holds what the last host stretch computes
    from the contents left by the second kernel (`W4` at the result), and its arguments are unchanged. -/
theorem result_run : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Gen

end
-- ==== Proof.Spec.lean ====
/- The loss as plain mathematics over the extended reals: the pieces the kernel's blocks and the reference's stages
   are both read as. Nothing here mentions a program. -/
module

public import Idealize.ShloMosaic.PureOps.Ideal

@[expose] public section

noncomputable section

namespace Cert.Proof

open Idealize.ShloMosaic

/-- The floor below which no norm is divided by: the f32 number nearest 10⁻¹². -/
def eps : EReal := ((2305843 / 2305843009213693952 : ℝ) : EReal)
/-- Its square, the floor of a squared norm. -/
def epsSq : EReal := ((5316911940649 / 5316911983139663491615228241121378304 : ℝ) : EReal)
/-- The temperature: the f32 number nearest 0.07. -/
def tau : EReal := ((9395241 / 134217728 : ℝ) : EReal)
/-- Its inverse. -/
def invTau : EReal := ((134217728 / 9395241 : ℝ) : EReal)

/-- The pattern printed for 10⁻¹² denotes the floor. -/
theorem ofBits_eps : Ideal.ofBits .f32 0x2B8CBCCC#32 = eps := by
  simp [Ideal.ofBits, Ideal.ieee, eps, -EReal.coe_mul]; norm_num
/-- The pattern printed for 0.07 denotes the temperature. -/
theorem ofBits_tau : Ideal.ofBits .f32 0x3D8F5C29#32 = tau := by
  simp [Ideal.ofBits, Ideal.ieee, tau, -EReal.coe_mul]; norm_num
/-- The pattern printed for 0.5 denotes a half. -/
theorem ofBits_half : Ideal.ofBits .f32 0x3F000000#32 = ((1 / 2 : ℝ) : EReal) := by
  simp [Ideal.ofBits, Ideal.ieee, -EReal.coe_mul]; norm_num

/-- 1 where the label word is the number `s`, else 0. -/
def hit (w : BitVec 32) (s : ℕ) : EReal := if w = BitVec.ofNat 32 s then 1 else 0

/-- The inverse norm of a row, as the kernel takes it: the reciprocal root of the squared norm, floored at 10⁻²⁴. -/
def inv (x : Fin 128 → EReal) : EReal := Ideal.rsqrt (max (∑ e, x e * x e) epsSq)

/-- A row divided by its norm floored at 10⁻¹². -/
def unit (x : Fin 128 → EReal) (d : Fin 128) : EReal :=
  Ideal.div (x d) (max (Ideal.sqrt (∑ e, x e * x e)) eps)

/-- The normalised mean of a segment: its sum by its count (at least 1), then by its norm. -/
def mu (seg : Fin 128 → EReal) (n : EReal) : Fin 128 → EReal :=
  unit fun e => Ideal.div (seg e) (max n 1)

/-- The kernel's similarity of a row with each segment's mean, before the row's own norm. -/
def dotp (a b : Fin 128 → EReal) : EReal := ∑ d, a d * b d

/-- 1 for a count of at least three, else 0. -/
def ge3 (n : EReal) : EReal :=
  (FloatOps.uitofp .f32 (BitVec.ofBool (decide (Ideal.ofBits .f32 0x40400000#32 ≤ n))) : Ideal .f32)

/-- The mean, over the eight foreground labels with at least three rows, of a summed loss over its count. -/
def meanOver (n t : ℕ → EReal) : EReal :=
  Ideal.div (∑ x : Fin 8, Ideal.div (ge3 (n x.val) * t x.val) (max (n x.val) 1)) (∑ x : Fin 8, ge3 (n x.val))

end Cert.Proof

end
-- ==== Proof.RefOps.lean ====
/- The reference's stages as functions of arrays, each read at an index. -/
module

public import proofs.«01_k».proof.Proof.Gen.ReferenceIdeal
public import proofs.«01_k».proof.Proof.Spec
public import Idealize.ShloMosaic.Lib.Claim
public import Idealize.ShloMosaic.Lib.Tactic.ValueTie

@[expose] public section

set_option maxRecDepth 16384

noncomputable section

namespace Cert.Proof.Ref

open Idealize.ShloMosaic Idealize.ShloMosaic.TcCoe Idealize.ShloMosaic.StableHlo
open Idealize.SL Idealize.SL.Sem
open Cert.ReferenceIdeal Cert.ReferenceIdeal.Gen

/-- A table of rows, each divided by its norm. -/
def normRows (x : FVec Ideal S320000x128 .f32) : FVec Ideal S320000x128 .f32 :=
  Host.divf x (broadcastInDim S320000x128 ![0, 1] bcast_S320000x1_S320000x128_0_1 (maximumf (broadcastInDim S320000x1 ![] bcast_S_S320000x1 (id (constant S_ .f32 0x2B8CBCCC#32))) (Host.sqrt (broadcastInDim S320000x1 ![0] bcast_S320000_S320000x1_0 (Host.reduceAdd (mulf x x) (constant S_ .f32 0x00000000#32) reducesTo_S320000x128_S320000_d1 h_S_)))))

/-- Row `i` of it is row `i` over its norm. -/
theorem normRows_apply (x : FVec Ideal S320000x128 .f32) (i : Fin 320000) (d : Fin 128) :
    normRows x (ix2 i d) = unit (fun e => x (ix2 i e)) d := by
  pointwise [normRows]
  rw [max_comm, show (id (constant (F := Ideal) S_ .f32 0x2B8CBCCC#32) ix0 : EReal) = eps from ofBits_eps]
  rfl

/-- One row, divided by its norm. -/
def normRow (x : FVec Ideal S1x128 .f32) : FVec Ideal S1x128 .f32 :=
  Host.divf x (broadcastInDim S1x128 ![0, 1] bcast_S1x1_S1x128_0_1 (maximumf (broadcastInDim S1x1 ![] bcast_S_S1x1 (id (constant S_ .f32 0x2B8CBCCC#32))) (Host.sqrt (broadcastInDim S1x1 ![0] bcast_S1_S1x1_0 (Host.reduceAdd (mulf x x) (constant S_ .f32 0x00000000#32) reducesTo_S1x128_S1_d1 h_S_)))))

/-- It is the row over its norm. -/
theorem normRow_apply (x : FVec Ideal S1x128 .f32) (d : Fin 128) :
    normRow x (ix2 0 d) = unit (fun e => x (ix2 0 e)) d := by
  pointwise [normRow]
  rw [max_comm, show (id (constant (F := Ideal) S_ .f32 0x2B8CBCCC#32) ix0 : EReal) = eps from ofBits_eps]
  rfl

/-- The column that marks the rows of one label. -/
def mask (l : IVec S320000 32) (w : BitVec 32) : FVec Ideal S320000x1 .f32 :=
  broadcastInDim S320000x1 ![0] bcast_S320000_S320000x1_0 (uitofp .f32 (cmpi .eq l (broadcastInDim S320000 ![] bcast_S_S320000 (constantI S_ 32 w))))

/-- It is 1 on them and 0 elsewhere. -/
theorem mask_apply (l : IVec S320000 32) (k : ℕ) (i : Fin 320000) :
    mask l (BitVec.ofNat 32 k) (ix2 i 0) = hit (l (ix1 i)) k := by
  pointwise [mask]
  unfold hit
  show (((BitVec.ofBool (l (ix1 i) == BitVec.ofNat 32 k)).toNat : ℝ) : EReal) = _
  by_cases h : l (ix1 i) = BitVec.ofNat 32 k
  · rw [if_pos h, beq_iff_eq.mpr h, show (BitVec.ofBool true).toNat = 1 from rfl]; norm_num
  · rw [if_neg h, beq_eq_false_iff_ne.mpr h]; norm_num

/-- The number of rows marked. -/
def total (b : FVec Ideal S320000x1 .f32) : FVec Ideal S_ .f32 :=
  Host.reduceAdd b (constant S_ .f32 0x00000000#32) reducesTo_S320000x1_S_d0_1 h_S_

/-- It is the sum of the marks. -/
theorem total_apply (b : FVec Ideal S320000x1 .f32) : total b ix0 = ∑ i : Fin 320000, b (ix2 i 0) := by
  pointwise [total]
  exact Finset.sum_congr rfl fun i _ => Fin.sum_univ_one _

/-- The mean of the rows marked. -/
def meanOf (x : FVec Ideal S320000x128 .f32) (b : FVec Ideal S320000x1 .f32) : FVec Ideal S1x128 .f32 :=
  Host.divf (broadcastInDim S1x128 ![1] bcast_S128_S1x128_1 (Host.reduceAdd (mulf x (broadcastInDim S320000x128 ![0, 1] bcast_S320000x1_S320000x128_0_1 b)) (constant S_ .f32 0x00000000#32) reducesTo_S320000x128_S128_d0 h_S_)) (broadcastInDim S1x128 ![] bcast_S_S1x128 (total b))

/-- It is their sum over their number. -/
theorem meanOf_apply (x : FVec Ideal S320000x128 .f32) (b : FVec Ideal S320000x1 .f32) (d : Fin 128) :
    meanOf x b (ix2 0 d) = Ideal.div (∑ i : Fin 320000, x (ix2 i d) * b (ix2 i 0)) (total b ix0) := by
  pointwise [meanOf]

/-- The mean of one segment: a row of the table of sums, over a count. -/
def segMean (g : FVec Ideal S9x128 .f32) (n : FVec Ideal S_ .f32) (o : Fin 2 → ℕ) (h : S9x128.Slices o S1x128) : FVec Ideal S1x128 .f32 :=
  Host.divf (extractStridedSlice S1x128 o g h) (broadcastInDim S1x128 ![] bcast_S_S1x128 n)

/-- The similarities of all rows with one. -/
def sim (x : FVec Ideal S320000x128 .f32) (r : FVec Ideal S1x128 .f32) : FVec Ideal S320000x1 .f32 :=
  Host.dotGeneral dot_S320000x128_S128x1_S320000x1_1_0_0_1_n_n none x (transpose S128x1 [1, 0] r transposes_S1x128_S128x1_1_0)

/-- Each is the sum of the products. -/
theorem sim_apply (x : FVec Ideal S320000x128 .f32) (r : FVec Ideal S1x128 .f32) (i : Fin 320000) :
    sim x r (ix2 i 0) = ∑ d : Fin 128, x (ix2 i d) * r (ix2 0 d) := by
  pointwise [sim]

/-- A row's loss: minus the logarithm of its share of two exponentials, at the temperature. -/
def nll (a o : EReal) : EReal :=
  -Ideal.log (Ideal.div (Ideal.exp (Ideal.div a tau)) (Ideal.exp (Ideal.div a tau) + Ideal.exp (Ideal.div o tau)))

/-- What one label adds: its rows' losses, summed, over their number, if it has at least three. -/
def share (v : FVec Ideal S_ .f32) (a o b : FVec Ideal S320000x1 .f32) (n : FVec Ideal S_ .f32) : FVec Ideal S_ .f32 :=
  mulf v (Host.divf (Host.reduceAdd (mulf (Host.negf (Host.log (Host.divf (Host.exp (Host.divf a (broadcastInDim S320000x1 ![] bcast_S_S320000x1 (constant S_ .f32 0x3D8F5C29#32)))) (addf (Host.exp (Host.divf a (broadcastInDim S320000x1 ![] bcast_S_S320000x1 (constant S_ .f32 0x3D8F5C29#32)))) (Host.exp (Host.divf o (broadcastInDim S320000x1 ![] bcast_S_S320000x1 (constant S_ .f32 0x3D8F5C29#32)))))))) b) (constant S_ .f32 0x00000000#32) reducesTo_S320000x1_S_d0_1 h_S_) n)

/-- It is the mark times the mean loss. -/
theorem share_apply (v : FVec Ideal S_ .f32) (a o b : FVec Ideal S320000x1 .f32) (n : FVec Ideal S_ .f32) :
    share v a o b n ix0 = v ix0 * Ideal.div (∑ i : Fin 320000, nll (a (ix2 i 0)) (o (ix2 i 0)) * b (ix2 i 0)) (n ix0) := by
  pointwise [share]
  rw [ofBits_tau]
  refine congrArg (fun z => v ix0 * Ideal.div z (n ix0)) ?_
  exact Finset.sum_congr rfl fun i _ => Fin.sum_univ_one _

/-- The number of rows of each label. -/
def counts (l : IVec S320000 32) : FVec Ideal S9 .f32 :=
  Host.scatterAdd scatter_S9_S320000x1_S320000_n_0_0_1 (broadcastInDim S9 ![] bcast_S_S9 (constant S_ .f32 0x00000000#32)) (broadcastInDim S320000x1 ![0] bcast_S320000_S320000x1_0 l) (broadcastInDim S320000 ![] bcast_S_S320000 (constant S_ .f32 0x3F800000#32))

/-- The sum of the rows of each label. -/
def sums (l : IVec S320000 32) (x : FVec Ideal S320000x128 .f32) : FVec Ideal S9x128 .f32 :=
  Host.scatterAdd scatter_S9x128_S320000x1_S320000x128_1_0_0_1 (broadcastInDim S9x128 ![] bcast_S_S9x128 (constant S_ .f32 0x00000000#32)) (broadcastInDim S320000x1 ![0] bcast_S320000_S320000x1_0 l) x

/-- One label's count. -/
def cntOf (n : FVec Ideal S9 .f32) (o : Fin 1 → ℕ) (h : S9.Slices o S1) : FVec Ideal S_ .f32 :=
  shapeCast _ (extractStridedSlice S1 o n h) shapeCasts_S1_S_

/-- 1 if it is at least three, else 0. -/
def valid (n : FVec Ideal S_ .f32) : FVec Ideal S_ .f32 := uitofp .f32 (cmpf .oge n (constant S_ .f32 0x40400000#32))
/-- The count, at least 1. -/
def safe (n : FVec Ideal S_ .f32) : FVec Ideal S_ .f32 := maximumf n (constant S_ .f32 0x3F800000#32)

/-- The first, at its one index. -/
theorem valid_apply (n : FVec Ideal S_ .f32) : valid n ix0 = ge3 (n ix0) := by
  pointwise [valid]
  rfl

/-- The second, at its one index. -/
theorem safe_apply (n : FVec Ideal S_ .f32) : safe n ix0 = max (n ix0) 1 := by
  pointwise [safe]

/-- It is the sum's row over the count. -/
theorem segMean_apply (g : FVec Ideal S9x128 .f32) (n : FVec Ideal S_ .f32) (k : ℕ) (hk : k < 9) (h : S9x128.Slices ![k, 0] S1x128) (d : Fin 128) :
   segMean g n ![k, 0] h (ix2 0 d) = Ideal.div (g (ix2 ⟨k, hk⟩ d)) (n ix0) := by
  pointwise [segMean]

/-- It is the label's place in the table of counts. -/
theorem cntOf_apply (n : FVec Ideal S9 .f32) (k : ℕ) (hk : k < 9) (h : S9.Slices ![k] S1) :
    cntOf n ![k] h ix0 = n (ix1 ⟨k, hk⟩) := by
  pointwise [cntOf]

end Cert.Proof.Ref
-- ==== Proof.RefScatter.lean ====
/- The two segment sums of the reference, as sums over the rows that carry the label. -/
module

public import proofs.«01_k».proof.Proof.RefOps

@[expose] public section

set_option maxRecDepth 16384

noncomputable section

namespace Cert.Proof.Ref

open Idealize.ShloMosaic Idealize.ShloMosaic.TcCoe Idealize.ShloMosaic.StableHlo
open Idealize.SL Idealize.SL.Sem
open Cert.ReferenceIdeal Cert.ReferenceIdeal.Gen

/-- A word read signed is a small number exactly when it is that number's word. -/
theorem toInt_eq_small (w : BitVec 32) (k : ℕ) (hk : k < 9) : w.toInt = (k : ℤ) ↔ w = BitVec.ofNat 32 k := by
  have e : (BitVec.ofNat 32 k).toInt = (k : ℤ) := by
    interval_cases k <;> decide
  constructor
  · intro h
    exact BitVec.eq_of_toInt_eq (h.trans e.symm)
  · rintro rfl
    exact e

/-- A row counts for label `k` exactly when its word is `k`. -/
theorem lands_counts (l : IVec S320000x1 32) (i : Fin 320000) (k : Fin 9) :
    scatter_S9_S320000x1_S320000_n_0_0_1.resultIdx? (ix1 i) l = some (ix1 k) ↔ l (ix2 i 0) = BitVec.ofNat 32 k.val := by
  rw [← toInt_eq_small _ k.val k.isLt]
  have hs : scatter_S9_S320000x1_S320000_n_0_0_1.start (ix1 i) l 0 = (l (ix2 i 0)).toInt := by
    refine congrArg (fun z => (l z).toInt) ?_
    funext b
    match b with
    | ⟨0, _⟩ => rfl
    | ⟨1, _⟩ => rfl
  have hw : scatter_S9_S320000x1_S320000_n_0_0_1.window (ix1 i) 0 = 0 := rfl
  unfold ScatterDims.resultIdx?
  constructor
  · intro h
    split at h
    case isTrue hh =>
      have h0 := congrFun (Option.some.inj h) 0
      have h1 := congrArg Fin.val h0
      have h2 := (hh 0).1
      simp only [hs, hw] at h1 h2
      have h3 : ((l (ix2 i 0)).toInt + ((0 : ℕ) : ℤ)).toNat = k.val := h1
      omega
    case isFalse => exact absurd h (by simp)
  · intro h
    have hh : ∀ a, 0 ≤ scatter_S9_S320000x1_S320000_n_0_0_1.start (ix1 i) l a + scatter_S9_S320000x1_S320000_n_0_0_1.window (ix1 i) a ∧
        scatter_S9_S320000x1_S320000_n_0_0_1.start (ix1 i) l a + scatter_S9_S320000x1_S320000_n_0_0_1.window (ix1 i) a < S9.size a := by
      intro a
      obtain rfl : a = 0 := Subsingleton.elim _ _
      rw [hs, hw, h]
      have : S9.size 0 = 9 := rfl
      have := k.isLt
      omega
    rw [dif_pos hh]
    refine congrArg some (funext fun a => ?_)
    obtain rfl : a = 0 := Subsingleton.elim _ _
    refine Fin.ext ?_
    show (scatter_S9_S320000x1_S320000_n_0_0_1.start (ix1 i) l 0 + scatter_S9_S320000x1_S320000_n_0_0_1.window (ix1 i) 0).toNat = k.val
    rw [hs, hw, h]
    omega

/-- Entry `d` of a row is added to entry `e` of label `k`'s sum exactly when its word is `k` and `d = e`. -/
theorem lands_sums (l : IVec S320000x1 32) (i : Fin 320000) (d e : Fin 128) (k : Fin 9) :
    scatter_S9x128_S320000x1_S320000x128_1_0_0_1.resultIdx? (ix2 i d) l = some (ix2 k e)
      ↔ l (ix2 i 0) = BitVec.ofNat 32 k.val ∧ d = e := by
  rw [← toInt_eq_small _ k.val k.isLt]
  have hs : scatter_S9x128_S320000x1_S320000x128_1_0_0_1.start (ix2 i d) l 0 = (l (ix2 i 0)).toInt := by
    refine congrArg (fun z => (l z).toInt) ?_
    funext b
    match b with
    | ⟨0, _⟩ => rfl
    | ⟨1, _⟩ => rfl
  have hs1 : scatter_S9x128_S320000x1_S320000x128_1_0_0_1.start (ix2 i d) l 1 = 0 := rfl
  have hw : scatter_S9x128_S320000x1_S320000x128_1_0_0_1.window (ix2 i d) 0 = 0 := rfl
  have hw1 : scatter_S9x128_S320000x1_S320000x128_1_0_0_1.window (ix2 i d) 1 = d.val := rfl
  unfold ScatterDims.resultIdx?
  constructor
  · intro h
    split at h
    case isTrue hh =>
      have h1 := congrArg Fin.val (congrFun (Option.some.inj h) 0)
      have h2 := (hh 0).1
      have h3 := congrArg Fin.val (congrFun (Option.some.inj h) 1)
      simp only [hs, hw, hs1, hw1] at h1 h2 h3
      have h4 : ((l (ix2 i 0)).toInt + ((0 : ℕ) : ℤ)).toNat = k.val := h1
      have h5 : ((0 : ℤ) + ((d.val : ℕ) : ℤ)).toNat = e.val := h3
      exact ⟨by omega, Fin.ext (by omega)⟩
    case isFalse => exact absurd h (by simp)
  · rintro ⟨h, rfl⟩
    have hh : ∀ a, 0 ≤ scatter_S9x128_S320000x1_S320000x128_1_0_0_1.start (ix2 i d) l a + scatter_S9x128_S320000x1_S320000x128_1_0_0_1.window (ix2 i d) a ∧
        scatter_S9x128_S320000x1_S320000x128_1_0_0_1.start (ix2 i d) l a + scatter_S9x128_S320000x1_S320000x128_1_0_0_1.window (ix2 i d) a < S9x128.size a := by
      intro a
      match a with
      | ⟨0, _⟩ =>
        have h9 : S9x128.size 0 = 9 := rfl
        have := k.isLt
        refine ⟨?_, ?_⟩
        · show 0 ≤ scatter_S9x128_S320000x1_S320000x128_1_0_0_1.start (ix2 i d) l 0 + scatter_S9x128_S320000x1_S320000x128_1_0_0_1.window (ix2 i d) 0
          rw [hs, hw, h]; omega
        · show scatter_S9x128_S320000x1_S320000x128_1_0_0_1.start (ix2 i d) l 0 + scatter_S9x128_S320000x1_S320000x128_1_0_0_1.window (ix2 i d) 0 < S9x128.size 0
          rw [hs, hw, h, h9]; omega
      | ⟨1, _⟩ =>
        have h9 : S9x128.size 1 = 128 := rfl
        have := d.isLt
        refine ⟨?_, ?_⟩
        · show 0 ≤ scatter_S9x128_S320000x1_S320000x128_1_0_0_1.start (ix2 i d) l 1 + scatter_S9x128_S320000x1_S320000x128_1_0_0_1.window (ix2 i d) 1
          rw [hs1, hw1]; omega
        · show scatter_S9x128_S320000x1_S320000x128_1_0_0_1.start (ix2 i d) l 1 + scatter_S9x128_S320000x1_S320000x128_1_0_0_1.window (ix2 i d) 1 < S9x128.size 1
          rw [hs1, hw1, h9]; omega
    rw [dif_pos hh]
    refine congrArg some (funext fun a => ?_)
    match a with
    | ⟨0, _⟩ =>
      refine Fin.ext ?_
      show (scatter_S9x128_S320000x1_S320000x128_1_0_0_1.start (ix2 i d) l 0 + scatter_S9x128_S320000x1_S320000x128_1_0_0_1.window (ix2 i d) 0).toNat = k.val
      rw [hs, hw, h]
      omega
    | ⟨1, _⟩ =>
      refine Fin.ext ?_
      show (scatter_S9x128_S320000x1_S320000x128_1_0_0_1.start (ix2 i d) l 1 + scatter_S9x128_S320000x1_S320000x128_1_0_0_1.window (ix2 i d) 1).toNat = d.val
      rw [hs1, hw1]
      omega

/-- The labels as a column. -/
theorem column_apply (l : IVec S320000 32) (i : Fin 320000) :
    broadcastInDim S320000x1 ![0] bcast_S320000_S320000x1_0 l (ix2 i 0) = l (ix1 i) := by
  pointwise

/-- A label's count is the number of rows that carry it. -/
theorem counts_apply (l : IVec S320000 32) (k : Fin 9) :
    counts l (ix1 k) = ∑ i : Fin 320000, hit (l (ix1 i)) k.val := by
  unfold counts Host.scatterAdd
  rw [Ideal.hostScatterAdd_def]
  unfold Ideal.hostScatterAdd
  rw [Finset.sum_filter]
  have h0 : (broadcastInDim S9 ![] bcast_S_S9 (constant (F := Ideal) S_ .f32 0x00000000#32) (ix1 k) : EReal) = 0 := by pointwise
  have h1 : ∀ a : Fin 320000, (broadcastInDim S320000 ![] bcast_S_S320000 (constant (F := Ideal) S_ .f32 0x3F800000#32) (ix1 a) : EReal) = 1 := by
    intro a; pointwise
  rw [h0, zero_add]
  refine (sum_idx1 (n0 := 320000) _).trans ?_
  refine Finset.sum_congr rfl fun i _ => ?_
  refine (if_congr (lands_counts _ i k) (h1 i) rfl).trans ?_
  rw [column_apply]
  rfl

/-- A label's sum is the sum of the rows that carry it. -/
theorem sums_apply (l : IVec S320000 32) (x : FVec Ideal S320000x128 .f32) (k : Fin 9) (d : Fin 128) :
    sums l x (ix2 k d) = ∑ i : Fin 320000, hit (l (ix1 i)) k.val * x (ix2 i d) := by
  unfold sums Host.scatterAdd
  rw [Ideal.hostScatterAdd_def]
  unfold Ideal.hostScatterAdd
  have h0 : (broadcastInDim S9x128 ![] bcast_S_S9x128 (constant (F := Ideal) S_ .f32 0x00000000#32) (ix2 k d) : EReal) = 0 := by pointwise
  rw [Finset.sum_filter, h0, zero_add]
  refine (sum_idx2 (n0 := 320000) (n1 := 128) _).trans ?_
  refine Finset.sum_congr rfl fun i _ => ?_
  rw [Finset.sum_eq_single d]
  · refine (if_congr (lands_sums _ i d d k) rfl rfl).trans ?_
    rw [column_apply]
    unfold hit
    by_cases h : l (ix1 i) = BitVec.ofNat 32 k.val
    · rw [if_pos ⟨h, rfl⟩, if_pos h, one_mul]
    · rw [if_neg fun q => h q.1, if_neg h, zero_mul]
  · intro e _ he
    exact if_neg fun q => he ((lands_sums _ i e d k).mp q).2
  · exact fun h => absurd (Finset.mem_univ d) h

end Cert.Proof.Ref
-- ==== Proof.RefLoss.lean ====
/- The reference's loss, label by label, as plain mathematics of the labels and the two tables. -/
module

public import proofs.«01_k».proof.Proof.RefScatter

@[expose] public section

set_option maxRecDepth 16384

noncomputable section

namespace Cert.Proof.Ref

open Idealize.ShloMosaic Idealize.ShloMosaic.TcCoe Idealize.ShloMosaic.StableHlo
open Idealize.SL Idealize.SL.Sem
open Cert.ReferenceIdeal Cert.ReferenceIdeal.Gen

/-- The number of rows of label `k`. -/
def cnt (l : Fin 320000 → BitVec 32) (k : ℕ) : EReal := ∑ i : Fin 320000, hit (l i) k

/-- The normalised mean of the normalised rows of label `k`. -/
def muSeg (l : Fin 320000 → BitVec 32) (x : Fin 320000 → Fin 128 → EReal) (k : ℕ) : Fin 128 → EReal :=
  mu (fun d => ∑ i : Fin 320000, hit (l i) k * unit (x i) d) (cnt l k)

/-- The normalised mean of the normalised background rows; their number is not floored. -/
def muBg (l : Fin 320000 → BitVec 32) (x : Fin 320000 → Fin 128 → EReal) : Fin 128 → EReal :=
  unit fun d => Ideal.div (∑ i : Fin 320000, unit (x i) d * hit (l i) 0) (cnt l 0)

/-- The patch losses of the rows of label `k`: the own mean against the background's. -/
def patchSum (l : Fin 320000 → BitVec 32) (x : Fin 320000 → Fin 128 → EReal) (k : ℕ) : EReal :=
  ∑ i : Fin 320000, nll (dotp (unit (x i)) (muSeg l x k)) (dotp (unit (x i)) (muBg l x)) * hit (l i) k

/-- The feature losses of the rows of label `k`: the background's mean against the own. -/
def featSum (l : Fin 320000 → BitVec 32) (y : Fin 320000 → Fin 128 → EReal) (k : ℕ) : EReal :=
  ∑ i : Fin 320000, nll (dotp (unit (y i)) (muBg l y)) (dotp (unit (y i)) (muSeg l y k)) * hit (l i) k

/-- The mean of a summed loss over its count, over the labels 1 to 8 with at least three rows. -/
def avg (n t : ℕ → EReal) : EReal :=
  Ideal.div (∑ k : Fin 8, ge3 (n (1 + k)) * Ideal.div (t (1 + k)) (max (n (1 + k)) 1)) (∑ k : Fin 8, ge3 (n (1 + k)))

/-- What the reference computes: the patch loss plus half the feature loss. -/
def lossR (l : Fin 320000 → BitVec 32) (x y : Fin 320000 → Fin 128 → EReal) : EReal :=
  avg (cnt l) (patchSum l x) + Ideal.ofBits .f32 0x3F000000#32 * avg (cnt l) (featSum l y)

variable (l : IVec S320000 32) (x y : FVec Ideal S320000x128 .f32)

/-- The mean of one label, from the tables. -/
def labelMean (k : ℕ) (h : S9.Slices ![k] S1) (h' : S9x128.Slices ![k, 0] S1x128) : FVec Ideal S1x128 .f32 :=
  normRow (segMean (sums l (normRows x)) (safe (cntOf (counts l) ![k] h)) ![k, 0] h')

/-- The background's mean. -/
def bgMean : FVec Ideal S1x128 .f32 := normRow (meanOf (normRows x) (mask l 0#32))

/-- One label's patch loss. -/
def patch (k : ℕ) (h : S9.Slices ![k] S1) (h' : S9x128.Slices ![k, 0] S1x128) : FVec Ideal S_ .f32 :=
  share (valid (cntOf (counts l) ![k] h)) (sim (normRows x) (labelMean l x k h h')) (sim (normRows x) (bgMean l x))
    (mask l (BitVec.ofNat 32 k)) (safe (cntOf (counts l) ![k] h))

/-- One label's feature loss. -/
def feat (k : ℕ) (h : S9.Slices ![k] S1) (h' : S9x128.Slices ![k, 0] S1x128) : FVec Ideal S_ .f32 :=
  share (valid (cntOf (counts l) ![k] h)) (sim (normRows y) (bgMean l y)) (sim (normRows y) (labelMean l y k h h'))
    (mask l (BitVec.ofNat 32 k)) (safe (cntOf (counts l) ![k] h))

/-- The label's count, read. -/
theorem count_read (k : ℕ) (hk : k < 9) (h : S9.Slices ![k] S1) :
    cntOf (counts l) ![k] h ix0 = cnt (fun i => l (ix1 i)) k := by
  rw [cntOf_apply _ k hk, counts_apply]
  rfl

/-- The label's mean, read. -/
theorem labelMean_read (k : ℕ) (hk : k < 9) (h : S9.Slices ![k] S1) (h' : S9x128.Slices ![k, 0] S1x128) (d : Fin 128) :
    labelMean l x k h h' (ix2 0 d) = muSeg (fun i => l (ix1 i)) (fun i e => x (ix2 i e)) k d := by
  unfold labelMean
  rw [normRow_apply]
  simp only [segMean_apply _ _ k hk, sums_apply, safe_apply, count_read l k hk, normRows_apply]
  rfl

/-- The background's mean, read. -/
theorem bgMean_read (d : Fin 128) : bgMean l x (ix2 0 d) = muBg (fun i => l (ix1 i)) (fun i e => x (ix2 i e)) d := by
  unfold bgMean
  rw [normRow_apply]
  simp only [meanOf_apply, total_apply, normRows_apply, show ∀ i, mask l 0#32 (ix2 i 0) = hit (l (ix1 i)) 0 from mask_apply l 0]
  rfl

/-- A label's patch loss, read. -/
theorem patch_read (k : ℕ) (hk : k < 9) (h : S9.Slices ![k] S1) (h' : S9x128.Slices ![k, 0] S1x128) :
    patch l x k h h' ix0 = ge3 (cnt (fun i => l (ix1 i)) k)
      * Ideal.div (patchSum (fun i => l (ix1 i)) (fun i e => x (ix2 i e)) k) (max (cnt (fun i => l (ix1 i)) k) 1) := by
  unfold patch
  rw [share_apply]
  simp only [valid_apply, safe_apply, count_read l k hk, sim_apply, normRows_apply, labelMean_read l x k hk, bgMean_read, mask_apply]
  rfl

/-- A label's feature loss, read. -/
theorem feat_read (k : ℕ) (hk : k < 9) (h : S9.Slices ![k] S1) (h' : S9x128.Slices ![k, 0] S1x128) :
    feat l y k h h' ix0 = ge3 (cnt (fun i => l (ix1 i)) k)
      * Ideal.div (featSum (fun i => l (ix1 i)) (fun i e => y (ix2 i e)) k) (max (cnt (fun i => l (ix1 i)) k) 1) := by
  unfold feat
  rw [share_apply]
  simp only [valid_apply, safe_apply, count_read l k hk, sim_apply, normRows_apply, labelMean_read l y k hk, bgMean_read, mask_apply]
  rfl

/-- Eight scalars added one by one, from zero. -/
def addUp (a b c d e f g h : FVec Ideal S_ .f32) : FVec Ideal S_ .f32 :=
  addf (addf (addf (addf (addf (addf (addf (addf (constant S_ .f32 0x00000000#32) a) b) c) d) e) f) g) h

/-- Their sum. -/
theorem addUp_apply (a b c d e f g h : FVec Ideal S_ .f32) :
    addUp a b c d e f g h ix0 = a ix0 + b ix0 + c ix0 + d ix0 + e ix0 + f ix0 + g ix0 + h ix0 := by
  pointwise [addUp]

/-- The marks of the labels with at least three rows, added up. -/
def presentSum : FVec Ideal S_ .f32 :=
  addUp (valid (cntOf (counts l) ![1] slices_S9_S1_1)) (valid (cntOf (counts l) ![2] slices_S9_S1_2))
    (valid (cntOf (counts l) ![3] slices_S9_S1_3)) (valid (cntOf (counts l) ![4] slices_S9_S1_4))
    (valid (cntOf (counts l) ![5] slices_S9_S1_5)) (valid (cntOf (counts l) ![6] slices_S9_S1_6))
    (valid (cntOf (counts l) ![7] slices_S9_S1_7)) (valid (cntOf (counts l) ![8] slices_S9_S1_8))

/-- The patch losses of the eight labels, added up. -/
def patchAll : FVec Ideal S_ .f32 :=
  addUp (patch l x 1 slices_S9_S1_1 slices_S9x128_S1x128_1_0) (patch l x 2 slices_S9_S1_2 slices_S9x128_S1x128_2_0)
    (patch l x 3 slices_S9_S1_3 slices_S9x128_S1x128_3_0) (patch l x 4 slices_S9_S1_4 slices_S9x128_S1x128_4_0)
    (patch l x 5 slices_S9_S1_5 slices_S9x128_S1x128_5_0) (patch l x 6 slices_S9_S1_6 slices_S9x128_S1x128_6_0)
    (patch l x 7 slices_S9_S1_7 slices_S9x128_S1x128_7_0) (patch l x 8 slices_S9_S1_8 slices_S9x128_S1x128_8_0)

/-- The feature losses of the eight labels, added up. -/
def featAll : FVec Ideal S_ .f32 :=
  addUp (feat l y 1 slices_S9_S1_1 slices_S9x128_S1x128_1_0) (feat l y 2 slices_S9_S1_2 slices_S9x128_S1x128_2_0)
    (feat l y 3 slices_S9_S1_3 slices_S9x128_S1x128_3_0) (feat l y 4 slices_S9_S1_4 slices_S9x128_S1x128_4_0)
    (feat l y 5 slices_S9_S1_5 slices_S9x128_S1x128_5_0) (feat l y 6 slices_S9_S1_6 slices_S9x128_S1x128_6_0)
    (feat l y 7 slices_S9_S1_7 slices_S9x128_S1x128_7_0) (feat l y 8 slices_S9_S1_8 slices_S9x128_S1x128_8_0)

/-- The reference's result from its arguments. -/
def result : FVec Ideal S_ .f32 :=
  addf (Host.divf (patchAll l x) (presentSum l)) (mulf (constant S_ .f32 0x3F000000#32) (Host.divf (featAll l y) (presentSum l)))

/-- The reference's result is the loss. -/
theorem result_read : result l x y ix0
    = lossR (fun i => l (ix1 i)) (fun i d => x (ix2 i d)) (fun i d => y (ix2 i d)) := by
  have hp : patchAll l x ix0 = ∑ k : Fin 8, ge3 (cnt (fun i => l (ix1 i)) (1 + k))
      * Ideal.div (patchSum (fun i => l (ix1 i)) (fun i e => x (ix2 i e)) (1 + k)) (max (cnt (fun i => l (ix1 i)) (1 + k)) 1) := by
    unfold patchAll
    rw [addUp_apply, Fin.sum_univ_eight]
    simp (discharger := decide) only [patch_read]
    rfl
  have hf : featAll l y ix0 = ∑ k : Fin 8, ge3 (cnt (fun i => l (ix1 i)) (1 + k))
      * Ideal.div (featSum (fun i => l (ix1 i)) (fun i e => y (ix2 i e)) (1 + k)) (max (cnt (fun i => l (ix1 i)) (1 + k)) 1) := by
    unfold featAll
    rw [addUp_apply, Fin.sum_univ_eight]
    simp (discharger := decide) only [feat_read]
    rfl
  have hv : presentSum l ix0 = ∑ k : Fin 8, ge3 (cnt (fun i => l (ix1 i)) (1 + k)) := by
    unfold presentSum
    rw [addUp_apply, Fin.sum_univ_eight]
    simp (discharger := decide) only [valid_apply, count_read]
    rfl
  pointwise [result]
  rw [hp, hf, hv]
  rfl

end Cert.Proof.Ref
-- ==== Proof.RefRun.lean ====
/- The run of the reference: its result buffer ends at the loss of its arguments. -/
module

public import proofs.«01_k».proof.Proof.RefLoss
public import proofs.«01_k».proof.Proof.Gen.ReferenceIdeal.Run

@[expose] public section

set_option maxRecDepth 16384

noncomputable section

namespace Cert.Proof.Ref

open Idealize.ShloMosaic Idealize.ShloMosaic.TcCoe Idealize.ShloMosaic.StableHlo
open Idealize.SL Idealize.SL.Sem
open Cert.ReferenceIdeal Cert.ReferenceIdeal.Gen

section
variable (V : Valuation τ sig (Elt Ideal))

/-- The labels of a valuation. -/
abbrev labels : IVec S320000 32 := V (Proc.devRef .tc main_arg2)
/-- The patch table of a valuation. -/
abbrev patches : FVec Ideal S320000x128 .f32 := V (Proc.devRef .tc main_arg0)
/-- The feature table of a valuation. -/
abbrev features : FVec Ideal S320000x128 .f32 := V (Proc.devRef .tc main_arg1)

/-- The patch losses of labels 1 to 6, as the run names them. -/
theorem v425_eq : (Value.res_main_v425 (F := Ideal) V : FVec Ideal S_ .f32)
    = addf (addf (addf (addf (addf (addf (constant S_ .f32 0x00000000#32)
        (patch (labels V) (patches V) 1 slices_S9_S1_1 slices_S9x128_S1x128_1_0)) (patch (labels V) (patches V) 2 slices_S9_S1_2 slices_S9x128_S1x128_2_0))
        (patch (labels V) (patches V) 3 slices_S9_S1_3 slices_S9x128_S1x128_3_0)) (patch (labels V) (patches V) 4 slices_S9_S1_4 slices_S9x128_S1x128_4_0))
        (patch (labels V) (patches V) 5 slices_S9_S1_5 slices_S9x128_S1x128_5_0)) (patch (labels V) (patches V) 6 slices_S9_S1_6 slices_S9x128_S1x128_6_0) := rfl

/-- The feature losses of all eight labels, as the run names them. -/
theorem v593_eq : (Value.res_main_v593 (F := Ideal) V : FVec Ideal S_ .f32) = featAll (labels V) (features V) := rfl

end

/-- The reference's runs end with the result of the arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v598)
        = result (m ((c.tc : Thread nD τ).loc main_arg2)) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run (F := Ideal) m ρ)
  rw [v425_eq, v593_eq]
  rfl

end Cert.Proof.Ref
-- ==== Proof.Unit.lean ====
/- Rows over their norms: the kernel's reciprocal root and the reference's division agree on all extended reals. -/
module

public import proofs.«01_k».proof.Proof.Spec

@[expose] public section

noncomputable section

namespace Cert.Proof

open Idealize.ShloMosaic

/-- A square is not negative. -/
theorem sq_nonneg' (a : EReal) : 0 ≤ a * a := by
  induction a with
  | bot => simp
  | top => simp
  | coe r => exact_mod_cast mul_self_nonneg r

/-- A squared norm is infinite, or a real that is not negative. -/
theorem ss_cases (x : Fin 128 → EReal) :
    (∑ e, x e * x e = ⊤) ∨ ∃ s : ℝ, 0 ≤ s ∧ ∑ e, x e * x e = (s : EReal) := by
  have h0 : 0 ≤ ∑ e, x e * x e := Finset.sum_nonneg fun e _ => sq_nonneg' (x e)
  induction h : ∑ e, x e * x e with
  | bot => rw [h] at h0; exact absurd h0 (by simp)
  | top => exact Or.inl rfl
  | coe s => rw [h] at h0; exact Or.inr ⟨s, by exact_mod_cast h0, rfl⟩

/-- With a real squared norm, every entry is real. -/
theorem real_of_ss (x : Fin 128 → EReal) (s : ℝ) (h : ∑ e, x e * x e = (s : EReal)) (d : Fin 128) :
    ∃ r : ℝ, x d = (r : EReal) := by
  have hle : x d * x d ≤ (s : EReal) := by
    rw [← h]
    exact Finset.single_le_sum (f := fun e => x e * x e) (fun e _ => sq_nonneg' (x e)) (Finset.mem_univ d)
  induction hx : x d with
  | bot => rw [hx] at hle; simp at hle
  | top => rw [hx] at hle; simp at hle
  | coe r => exact ⟨r, rfl⟩

/-- The floor of the norm, as a real. -/
def epsR : ℝ := 2305843 / 2305843009213693952

/-- It is positive. -/
theorem epsR_pos : 0 < epsR := by unfold epsR; norm_num

/-- It is the floor of the specification. -/
theorem eps_eq : eps = (epsR : EReal) := rfl

/-- The floor of the squared norm is the square of the floor of the norm. -/
theorem epsSq_eq : epsSq = ((epsR ^ 2 : ℝ) : EReal) := by
  unfold epsSq epsR
  norm_num

/-- The root of a floored square is the floored root. -/
theorem sqrt_max (s : ℝ) : √(max s (epsR ^ 2)) = max (√s) epsR := by
  have hm : Monotone Real.sqrt := fun a b h => Real.sqrt_le_sqrt h
  rw [hm.map_max, Real.sqrt_sq epsR_pos.le]

/-- The inverse norm is a real that is not negative, and each entry of the row over its norm is the entry times it. -/
theorem unit_eq (x : Fin 128 → EReal) : ∃ v : ℝ, 0 ≤ v ∧ inv x = (v : EReal) ∧ ∀ d, unit x d = x d * inv x := by
  have hm : ∀ a b : ℝ, max (a : EReal) (b : EReal) = ((max a b : ℝ) : EReal) := fun a b =>
    (EReal.coe_strictMono.monotone.map_max).symm
  rcases ss_cases x with h | ⟨s, hs, h⟩
  · have hi : inv x = 0 := by unfold inv; rw [h]; simp
    refine ⟨0, le_refl _, hi, fun d => ?_⟩
    rw [hi, mul_zero]
    unfold unit; rw [h]
    simp [Ideal.div]
  · have hp : 0 < max (√s) epsR := lt_max_of_lt_right epsR_pos
    have hi : inv x = (((max (√s) epsR)⁻¹ : ℝ) : EReal) := by
      have hq : 0 < max s (epsR ^ 2) := lt_max_of_lt_right (by have := epsR_pos; positivity)
      unfold inv
      rw [h, epsSq_eq, hm, Ideal.rsqrt_coe, if_neg (not_lt.mpr hq.le), if_neg hq.ne', sqrt_max]
    refine ⟨(max (√s) epsR)⁻¹, by positivity, hi, fun d => ?_⟩
    rw [hi]
    unfold unit
    rw [h, eps_eq, Ideal.sqrt_coe, if_neg (not_lt.mpr hs), hm, Ideal.div_coe hp.ne', one_div]

/-- The inverse norm is a real. -/
theorem inv_real (x : Fin 128 → EReal) : ∃ v : ℝ, inv x = (v : EReal) :=
  let ⟨v, _, h, _⟩ := unit_eq x
  ⟨v, h⟩

/-- A row over its norm is the row times its inverse norm. -/
theorem unit_mul (x : Fin 128 → EReal) (d : Fin 128) : unit x d = x d * inv x := by
  obtain ⟨_, _, _, h⟩ := unit_eq x
  exact h d

/-- A row over its norm is made of reals, whatever the row. -/
theorem unit_real (x : Fin 128 → EReal) : ∃ u : Fin 128 → ℝ, ∀ d, unit x d = (u d : EReal) := by
  suffices ∀ d, ∃ r : ℝ, unit x d = (r : EReal) from ⟨fun d => (this d).choose, fun d => (this d).choose_spec⟩
  intro d
  rw [unit_mul]
  rcases ss_cases x with h | ⟨s, _, h⟩
  · have hi : inv x = 0 := by unfold inv; rw [h]; simp
    exact ⟨0, by rw [hi, mul_zero]; rfl⟩
  · obtain ⟨r, hr⟩ := real_of_ss x s h d
    obtain ⟨v, hv⟩ := inv_real x
    exact ⟨r * v, by rw [hr, hv]; rfl⟩

/-- A sum of reals is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The similarity of a real row with the unit row, in either order of the norm. -/
theorem dotp_inv (m x : Fin 128 → EReal) (hm : ∃ u : Fin 128 → ℝ, ∀ d, m d = (u d : EReal)) :
    dotp m x * inv x = dotp (unit x) m := by
  obtain ⟨u, hu⟩ := hm
  unfold dotp
  rcases ss_cases x with h | ⟨s, _, h⟩
  · have hi : inv x = 0 := by unfold inv; rw [h]; simp
    simp only [unit_mul, hi, mul_zero, zero_mul, Finset.sum_const_zero]
  · obtain ⟨v, hv⟩ := inv_real x
    choose r hr using real_of_ss x s h
    simp only [unit_mul, hv, hu, hr, ← EReal.coe_mul, coe_sum]
    rw [Finset.sum_mul]
    refine congrArg _ (Finset.sum_congr rfl fun d _ => by ring)

/-- The similarity of two unit rows is a real. -/
theorem dotp_real (a b : Fin 128 → EReal) (ha : ∃ u : Fin 128 → ℝ, ∀ d, a d = (u d : EReal))
    (hb : ∃ u : Fin 128 → ℝ, ∀ d, b d = (u d : EReal)) : ∃ r : ℝ, dotp a b = (r : EReal) := by
  obtain ⟨u, hu⟩ := ha
  obtain ⟨w, hw⟩ := hb
  refine ⟨∑ d, u d * w d, ?_⟩
  unfold dotp
  simp only [hu, hw, ← EReal.coe_mul, coe_sum]

end Cert.Proof

end
-- ==== Proof.Block.lean ====
/- What one block of 20000 rows contributes, in both of the kernel's passes, read index by index. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-- The named floor of a squared norm is the square of the floor of a norm. -/
theorem named_epsSq : (Named.named Cert.KernelIdeal.κ "eps_sq" 0x179ABE15#32 : Ideal .f32) = epsSq :=
  IdealRules.named_const.ideal_named_scalar _ _ _ _ rfl
/-- The named inverse temperature is the inverse of the temperature. -/
theorem named_invTau : (Named.named Cert.KernelIdeal.κ "inv_tau" 0x41649249#32 : Ideal .f32) = invTau :=
  IdealRules.named_const.ideal_named_scalar _ _ _ _ rfl

/-- A comparison for equality widened to a word and converted: 1 where equal, else 0. -/
theorem hit_of_cmp (w : BitVec 32) (s : ℕ) :
    (FloatOps.sitofp .f32 (BitVec.setWidth 32 (IntOp.cmpi .eq w (BitVec.ofNat 32 s))) : Ideal .f32) = hit w s := by
  unfold hit
  show (((BitVec.setWidth 32 (BitVec.ofBool (w == BitVec.ofNat 32 s))).toInt : ℝ) : EReal) = _
  by_cases h : w = BitVec.ofNat 32 s
  · rw [if_pos h, beq_iff_eq.mpr h, show (BitVec.setWidth 32 (BitVec.ofBool true)).toInt = 1 from by decide]; norm_num
  · rw [if_neg h, beq_eq_false_iff_ne.mpr h]; norm_num

/-- The one-hot table of a block in the first pass: entry (s, r) is 1 where row `r` has label `s`. -/
theorem onehot0 (v2 : Vec Ideal S1x1x20000 .i32) (s : Fin 16) (r : Fin 20000) :
    k0_pay3 v2 (ix2 s r) = hit (v2 (ix3 0 0 r)) s.val := by
  pointwise [k0_pay3]
  exact hit_of_cmp _ _

/-- The one-hot table of a block in the second pass. -/
theorem onehot1 (v2 : Vec Ideal S1x1x20000 .i32) (s : Fin 16) (r : Fin 20000) :
    k1_pay7 v2 (ix2 s r) = hit (v2 (ix3 0 0 r)) s.val := by
  pointwise [k1_pay7]
  exact hit_of_cmp _ _

/-- The first pass adds to the patch sums: over the block's rows of the label, the row times its inverse norm. -/
theorem sum_dp (v0 : Vec Ideal S20000x128 .f32) (v2 : Vec Ideal S1x1x20000 .i32) (acc : Vec Ideal S16x128 .f32)
    (s : Fin 16) (d : Fin 128) :
    k0_pay9 v0 v2 acc (ix2 s d) = acc (ix2 s d)
      + ∑ r : Fin 20000, hit (v2 (ix3 0 0 r)) s.val * inv (fun e => v0 (ix2 r e)) * v0 (ix2 r d) := by
  pointwise [k0_pay9]
  simp only [onehot0, named_epsSq, inv]

/-- The first pass adds to the feature sums likewise. -/
theorem sum_cf (v1 : Vec Ideal S20000x128 .f32) (v2 : Vec Ideal S1x1x20000 .i32) (acc : Vec Ideal S16x128 .f32)
    (s : Fin 16) (d : Fin 128) :
    k0_pay1 (k0_pay4 v1 v2) acc (ix2 s d) = acc (ix2 s d)
      + ∑ r : Fin 20000, hit (v2 (ix3 0 0 r)) s.val * inv (fun e => v1 (ix2 r e)) * v1 (ix2 r d) := by
  pointwise [k0_pay1, k0_pay4]
  simp only [onehot0, named_epsSq, inv]

/-- The first pass adds to the counts the number of the block's rows of the label, in every lane. -/
theorem sum_cnt (v2 : Vec Ideal S1x1x20000 .i32) (acc : Vec Ideal S16x128 .f32) (s : Fin 16) (d : Fin 128) :
    k0_pay2 (k0_pay5 v2) acc (ix2 s d) = acc (ix2 s d) + ∑ r : Fin 20000, hit (v2 (ix3 0 0 r)) s.val := by
  pointwise [k0_pay2, k0_pay5]
  simp only [onehot0]

/-- The second pass's patch similarities: the normalised mean of segment `s` against row `r`. -/
theorem sim_dp (n : Vec Ideal S16x1 .f32) (g : Vec Ideal S16x128 .f32) (x : Vec Ideal S20000x128 .f32)
    (s : Fin 16) (r : Fin 20000) :
    k1_pay8 n g x (ix2 s r) = dotp (mu (fun e => g (ix2 s e)) (n (ix2 s 0))) (fun e => x (ix2 r e)) := by
  pointwise [k1_pay8, k1_pay5]
  simp only [ofBits_eps, dotp, mu, unit]

/-- The second pass's normalised means of the features. -/
theorem mean_cf (n : Vec Ideal S16x1 .f32) (g : Vec Ideal S16x128 .f32) (s : Fin 16) (d : Fin 128) :
    k1_pay6 n g (ix2 s d) = mu (fun e => g (ix2 s e)) (n (ix2 s 0)) d := by
  pointwise [k1_pay6, k1_pay5]
  simp only [ofBits_eps, mu, unit]

/-- One row's term of the patch loss, from its label `w`, its inverse norm `v` and its similarities `st` with the
    segments' means: log(1 + exp((background − own)/τ)). -/
def termT (w : BitVec 32) (v : EReal) (st : Fin 16 → EReal) : EReal :=
  Ideal.log1p (Ideal.exp ((st 0 * v - ∑ k : Fin 16, st k * v * hit w k.val) * invTau))

/-- One row's term of the feature loss: log(1 + exp((own − background)/τ)). -/
def termC (w : BitVec 32) (v : EReal) (st : Fin 16 → EReal) : EReal :=
  Ideal.log1p (Ideal.exp ((∑ k : Fin 16, st k * v * hit w k.val - st 0 * v) * invTau))

/-- The second pass adds to the patch losses the terms of the block's rows of the label, in every lane. -/
theorem sum_t (x : Vec Ideal S20000x128 .f32) (lab : Vec Ideal S1x1x20000 .i32) (st : FVec Ideal S16x20000 .f32)
    (acc : Vec Ideal S16x128 .f32) (s : Fin 16) (d : Fin 128) :
    k1_pay3 (k1_pay9 x (k1_pay7 lab) st) acc (ix2 s d) = acc (ix2 s d)
      + ∑ r : Fin 20000, hit (lab (ix3 0 0 r)) s.val
          * termT (lab (ix3 0 0 r)) (inv fun e => x (ix2 r e)) (fun k => st (ix2 k r)) := by
  pointwise [k1_pay3, k1_pay9]
  simp only [onehot1, named_epsSq, named_invTau, termT, inv]

/-- The second pass adds to the feature losses likewise. -/
theorem sum_c (mc : FVec Ideal S16x128 .f32) (y : Vec Ideal S20000x128 .f32) (lab : Vec Ideal S1x1x20000 .i32)
    (acc : Vec Ideal S16x128 .f32) (s : Fin 16) (d : Fin 128) :
    k1_pay4 (k1_pay10 mc y (k1_pay7 lab) (constant S16x20000 .f32 0x00000000#32)) acc (ix2 s d) = acc (ix2 s d)
      + ∑ r : Fin 20000, hit (lab (ix3 0 0 r)) s.val
          * termC (lab (ix3 0 0 r)) (inv fun e => y (ix2 r e))
              (fun k => dotp (fun e => mc (ix2 k e)) (fun e => y (ix2 r e))) := by
  pointwise [k1_pay4, k1_pay10]
  simp only [onehot1, named_epsSq, named_invTau, termC, inv, dotp]

end Cert.Proof

end
-- ==== Proof.Region0.lean ====
/- What the three arrays of the first pass hold after it: sums over all 320000 rows. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.Proof

open Idealize.ShloMosaic Idealize.ShloMosaic.TcCoe
open Idealize.SL Idealize.SL.Sem
open Cert.KernelIdeal Cert.KernelIdeal.Gen

/-- The label of row `i`, read from the labels laid out as 16 blocks of 20000. -/
def labAt (l : Vec Ideal S16x1x20000 .i32) (i : Fin 320000) : BitVec 32 :=
  l (ix3 ⟨i.val / 20000, by omega⟩ 0 ⟨i.val % 20000, by omega⟩)

/-- Row `i` of an embedding table. -/
def rowAt (x : Vec Ideal S320000x128 .f32) (i : Fin 320000) : Fin 128 → EReal := fun d => x (ix2 i d)

/-- The sum of the normalised rows that carry label `s`, as the first pass forms it. -/
def segSum (l : Fin 320000 → BitVec 32) (x : Fin 320000 → Fin 128 → EReal) (s : ℕ) (d : Fin 128) : EReal :=
  ∑ i : Fin 320000, hit (l i) s * inv (x i) * x i d

/-- How many rows carry label `s`. -/
def cntSum (l : Fin 320000 → BitVec 32) (s : ℕ) : EReal := ∑ i : Fin 320000, hit (l i) s

variable (V : (c : Dev nD) → (b : Ref sig .tc) → Buf (Elt Ideal) ((c : Thread nD τ).loc b)) (c : Dev nD)

/-- Where each input window of the first pass stands at a grid point. -/
theorem idx0 : ∀ t : Fin grid0.N, win0_0.index t = ![t.val, 0] ∧ win0_1.index t = ![t.val, 0]
    ∧ win0_2.index t = ![t.val, 0, 0] := by decide +kernel

/-- Row `r` of the block at grid point `t` is one of the 320000 rows. -/
theorem row_lt0 (t : Fin cfg0.N) (r : Fin 20000) : t.val * 20000 + r.val < 320000 := by
  have h : t.val < 16 := t.isLt
  omega

/-- Block by block is the same as row by row. -/
theorem sum_rows0 (G : Fin 320000 → EReal) :
    ∑ t : Fin cfg0.N, ∑ r : Fin 20000, G ⟨t.val * 20000 + r.val, row_lt0 t r⟩ = ∑ i : Fin 320000, G i :=
  Fin.sum_mul_add_congr (fun _ _ _ => rfl) (by decide)

/-- A row of a block of the patch table is the row of the table. -/
theorem blk0_0 (t : Fin cfg0.N) (r : Fin 20000) (d : Fin 128) :
    (iblk0 V c 0 t : Vec Ideal S20000x128 .f32) (ix2 r d) = rowAt (V c (Pipeline.arrRef spec0 0)) ⟨t.val * 20000 + r.val, row_lt0 t r⟩ d := by
  unfold rowAt
  blk_ext [iblk0, idx0 t]

/-- A row of a block of the feature table is the row of the table. -/
theorem blk0_1 (t : Fin cfg0.N) (r : Fin 20000) (d : Fin 128) :
    (iblk0 V c 1 t : Vec Ideal S20000x128 .f32) (ix2 r d) = rowAt (V c (Pipeline.arrRef spec0 1)) ⟨t.val * 20000 + r.val, row_lt0 t r⟩ d := by
  unfold rowAt
  blk_ext [iblk0, idx0 t]

/-- A label of a block is the label of the row. -/
theorem blk0_2 (t : Fin cfg0.N) (r : Fin 20000) :
    (iblk0 V c 2 t : Vec Ideal S1x1x20000 .i32) (ix3 0 0 r) = labAt (V c (Pipeline.arrRef spec0 2)) ⟨t.val * 20000 + r.val, row_lt0 t r⟩ := by
  have h : t.val < 16 := t.isLt
  unfold labAt
  blk_ext [iblk0, idx0 t]

/-- After the first pass: the sums of the normalised patch rows of each label. -/
theorem arr_dp (s : Fin 16) (d : Fin 128) : ((dat0 V c).arrAt 3 cfg0.N : Vec Ideal S16x128 .f32) (ix2 s d) = segSum (labAt (V c (Pipeline.arrRef spec0 2))) (rowAt (V c (Pipeline.arrRef spec0 0))) s.val d := by
  have key : (dat0 V c).arrAt 3 cfg0.N = fun j : S16x128.Idx => segSum (labAt (V c (Pipeline.arrRef spec0 2))) (rowAt (V c (Pipeline.arrRef spec0 0))) (j 0).val (j 1) := by
    refine (dat0 V c).arrAt_eq_of_after_last 3 t0_15 (by decide +kernel) _ fun j => ?_
    idx_vars j
    blk_simp
    rw [after0_3]
    refine (Pipeline.eq_sum_fin_of_reset_step_apply_last (fun n h => (outsAt0 V c n h).1) 16 (fun _ => (0 : EReal))
      (fun t j => ∑ r : Fin 20000, (fun i : Fin 320000 => hit (labAt (V c (Pipeline.arrRef spec0 2)) i) (j 0).val * inv (rowAt (V c (Pipeline.arrRef spec0 0)) i) * rowAt (V c (Pipeline.arrRef spec0 0)) i (j 1)) ⟨t.val * 20000 + r.val, row_lt0 t r⟩)
      (fun t h j => by rw [outsAt0_A V c t h]; frame_out; idx_vars j; rw [sum_dp]; simp only [blk0_2, blk0_0]; pointwise [k0_pay6])
      (fun t h j => by rw [outsAt0_B V c t h]; frame_out; idx_vars j; rw [sum_dp]; simp only [blk0_2, blk0_0])
      (by decide) t0_15 rfl _).trans ?_
    rw [zero_add]
    exact sum_rows0 fun i => hit (labAt (V c (Pipeline.arrRef spec0 2)) i) j0.val * inv (rowAt (V c (Pipeline.arrRef spec0 0)) i) * rowAt (V c (Pipeline.arrRef spec0 0)) i j1
  rw [key]
  rfl

/-- After the first pass: the sums of the normalised feature rows of each label. -/
theorem arr_cf (s : Fin 16) (d : Fin 128) : ((dat0 V c).arrAt 4 cfg0.N : Vec Ideal S16x128 .f32) (ix2 s d) = segSum (labAt (V c (Pipeline.arrRef spec0 2))) (rowAt (V c (Pipeline.arrRef spec0 1))) s.val d := by
  have key : (dat0 V c).arrAt 4 cfg0.N = fun j : S16x128.Idx => segSum (labAt (V c (Pipeline.arrRef spec0 2))) (rowAt (V c (Pipeline.arrRef spec0 1))) (j 0).val (j 1) := by
    refine (dat0 V c).arrAt_eq_of_after_last 4 t0_15 (by decide +kernel) _ fun j => ?_
    idx_vars j
    blk_simp
    rw [after0_4]
    refine (Pipeline.eq_sum_fin_of_reset_step_apply_last (fun n h => (outsAt0 V c n h).2.1) 16 (fun _ => (0 : EReal))
      (fun t j => ∑ r : Fin 20000, (fun i : Fin 320000 => hit (labAt (V c (Pipeline.arrRef spec0 2)) i) (j 0).val * inv (rowAt (V c (Pipeline.arrRef spec0 1)) i) * rowAt (V c (Pipeline.arrRef spec0 1)) i (j 1)) ⟨t.val * 20000 + r.val, row_lt0 t r⟩)
      (fun t h j => by rw [outsAt0_A V c t h]; frame_out; idx_vars j; rw [sum_cf]; simp only [blk0_2, blk0_1]; pointwise [k0_pay7])
      (fun t h j => by rw [outsAt0_B V c t h]; frame_out; idx_vars j; rw [sum_cf]; simp only [blk0_2, blk0_1])
      (by decide) t0_15 rfl _).trans ?_
    rw [zero_add]
    exact sum_rows0 fun i => hit (labAt (V c (Pipeline.arrRef spec0 2)) i) j0.val * inv (rowAt (V c (Pipeline.arrRef spec0 1)) i) * rowAt (V c (Pipeline.arrRef spec0 1)) i j1
  rw [key]
  rfl

/-- After the first pass: how many rows carry each label, in every lane. -/
theorem arr_cnt (s : Fin 16) (d : Fin 128) : ((dat0 V c).arrAt 5 cfg0.N : Vec Ideal S16x128 .f32) (ix2 s d) = cntSum (labAt (V c (Pipeline.arrRef spec0 2))) s.val := by
  have key : (dat0 V c).arrAt 5 cfg0.N = fun j : S16x128.Idx => cntSum (labAt (V c (Pipeline.arrRef spec0 2))) (j 0).val := by
    refine (dat0 V c).arrAt_eq_of_after_last 5 t0_15 (by decide +kernel) _ fun j => ?_
    idx_vars j
    blk_simp
    rw [after0_5]
    refine (Pipeline.eq_sum_fin_of_reset_step_apply_last (fun n h => (outsAt0 V c n h).2.2) 16 (fun _ => (0 : EReal))
      (fun t j => ∑ r : Fin 20000, (fun i : Fin 320000 => hit (labAt (V c (Pipeline.arrRef spec0 2)) i) (j 0).val) ⟨t.val * 20000 + r.val, row_lt0 t r⟩)
      (fun t h j => by rw [outsAt0_A V c t h]; frame_out; idx_vars j; rw [sum_cnt]; simp only [blk0_2]; pointwise [k0_pay8])
      (fun t h j => by rw [outsAt0_B V c t h]; frame_out; idx_vars j; rw [sum_cnt]; simp only [blk0_2])
      (by decide) t0_15 rfl _).trans ?_
    rw [zero_add]
    exact sum_rows0 fun i => hit (labAt (V c (Pipeline.arrRef spec0 2)) i) j0.val
  rw [key]
  rfl

end Cert.Proof
-- ==== Proof.Region1.lean ====
/- What the two arrays of the second pass hold after it: the rows' losses summed over all 320000 rows. -/
module

public import proofs.«01_k».proof.Proof.Region0

@[expose] public section

set_option maxRecDepth 16384

noncomputable section

namespace Cert.Proof

open Idealize.ShloMosaic Idealize.ShloMosaic.TcCoe
open Idealize.SL Idealize.SL.Sem
open Cert.KernelIdeal Cert.KernelIdeal.Gen

variable (V : (c : Dev nD) → (b : Ref sig .tc) → Buf (Elt Ideal) ((c : Thread nD τ).loc b)) (c : Dev nD)

/-- Where each input window of the second pass stands at a grid point. -/
theorem idx1 : ∀ t : Fin grid1.N, win1_0.index t = ![t.val, 0] ∧ win1_1.index t = ![t.val, 0]
    ∧ win1_2.index t = ![t.val, 0, 0] ∧ win1_3.index t = ![0, 0] ∧ win1_4.index t = ![0, 0] ∧ win1_5.index t = ![0, 0] := by
  decide +kernel

/-- Row `r` of the block at grid point `t` is one of the 320000 rows. -/
theorem row_lt1 (t : Fin cfg1.N) (r : Fin 20000) : t.val * 20000 + r.val < 320000 := by
  have h : t.val < 16 := t.isLt
  omega

/-- Block by block is the same as row by row. -/
theorem sum_rows1 (G : Fin 320000 → EReal) :
    ∑ t : Fin cfg1.N, ∑ r : Fin 20000, G ⟨t.val * 20000 + r.val, row_lt1 t r⟩ = ∑ i : Fin 320000, G i :=
  Fin.sum_mul_add_congr (fun _ _ _ => rfl) (by decide)

/-- A row of a block of the patch table is the row of the table. -/
theorem blk1_0 (t : Fin cfg1.N) (r : Fin 20000) (d : Fin 128) :
    (iblk1 V c 0 t : Vec Ideal S20000x128 .f32) (ix2 r d) = rowAt (V c (Pipeline.arrRef spec1 0)) ⟨t.val * 20000 + r.val, row_lt1 t r⟩ d := by
  unfold rowAt
  blk_ext [iblk1, idx1 t]

/-- A row of a block of the feature table is the row of the table. -/
theorem blk1_1 (t : Fin cfg1.N) (r : Fin 20000) (d : Fin 128) :
    (iblk1 V c 1 t : Vec Ideal S20000x128 .f32) (ix2 r d) = rowAt (V c (Pipeline.arrRef spec1 1)) ⟨t.val * 20000 + r.val, row_lt1 t r⟩ d := by
  unfold rowAt
  blk_ext [iblk1, idx1 t]

/-- A label of a block is the label of the row. -/
theorem blk1_2 (t : Fin cfg1.N) (r : Fin 20000) :
    (iblk1 V c 2 t : Vec Ideal S1x1x20000 .i32) (ix3 0 0 r) = labAt (V c (Pipeline.arrRef spec1 2)) ⟨t.val * 20000 + r.val, row_lt1 t r⟩ := by
  have h : t.val < 16 := t.isLt
  unfold labAt
  blk_ext [iblk1, idx1 t]

/-- Every point sees the whole array of patch segment sums. -/
theorem blk1_3 (t : Fin cfg1.N) (k : Fin 16) (d : Fin 128) :
    (iblk1 V c 3 t : Vec Ideal S16x128 .f32) (ix2 k d) = (V c (Pipeline.arrRef spec1 3) : Vec Ideal S16x128 .f32) (ix2 k d) := by
  blk_ext [iblk1, idx1 t]

/-- Every point sees the whole array of feature segment sums. -/
theorem blk1_4 (t : Fin cfg1.N) (k : Fin 16) (d : Fin 128) :
    (iblk1 V c 4 t : Vec Ideal S16x128 .f32) (ix2 k d) = (V c (Pipeline.arrRef spec1 4) : Vec Ideal S16x128 .f32) (ix2 k d) := by
  blk_ext [iblk1, idx1 t]

/-- The count of a label is read from the first lane of the array of counts. -/
theorem blk1_5 (t : Fin cfg1.N) (k : Fin 16) :
    View.ld (iblk1 V c 5 t : Vec Ideal S16x128 .f32) (Rect.unit ![0, 0] ![16, 1] inb_S16x128_S16x1_0_0) (ix2 k 0)
      = (V c (Pipeline.arrRef spec1 5) : Vec Ideal S16x128 .f32) (ix2 k 0) := by
  rw [View.ld_apply]
  blk_ext [iblk1, idx1 t]
  · rw [Rect.idx_unit_val]
    exact Nat.zero_add _
  · rw [Rect.idx_unit_val]
    rfl

/-- The normalised mean of label `k`, from the arrays of the first pass. -/
def meanAt (g n : Vec Ideal S16x128 .f32) (k : Fin 16) : Fin 128 → EReal := mu (fun e => g (ix2 k e)) (n (ix2 k 0))

/-- After the second pass: the patch losses of the rows of each label, in every lane. -/
theorem arr_t (s : Fin 16) (d : Fin 128) : ((dat1 V c).arrAt 6 cfg1.N : Vec Ideal S16x128 .f32) (ix2 s d)
    = ∑ i : Fin 320000, hit (labAt (V c (Pipeline.arrRef spec1 2)) i) s.val * termT (labAt (V c (Pipeline.arrRef spec1 2)) i) (inv (rowAt (V c (Pipeline.arrRef spec1 0)) i)) fun k =>
      dotp (meanAt (V c (Pipeline.arrRef spec1 3)) (V c (Pipeline.arrRef spec1 5)) k) (rowAt (V c (Pipeline.arrRef spec1 0)) i) := by
  have key : (dat1 V c).arrAt 6 cfg1.N = fun j : S16x128.Idx => ∑ i : Fin 320000, hit (labAt (V c (Pipeline.arrRef spec1 2)) i) (j 0).val * termT (labAt (V c (Pipeline.arrRef spec1 2)) i) (inv (rowAt (V c (Pipeline.arrRef spec1 0)) i)) fun k =>
      dotp (meanAt (V c (Pipeline.arrRef spec1 3)) (V c (Pipeline.arrRef spec1 5)) k) (rowAt (V c (Pipeline.arrRef spec1 0)) i) := by
    refine (dat1 V c).arrAt_eq_of_after_last 6 t1_15 (by decide +kernel) _ fun j => ?_
    idx_vars j
    blk_simp
    rw [after1_6]
    refine (Pipeline.eq_sum_fin_of_reset_step_apply_last (fun n h => (outsAt1 V c n h).1) 16 (fun _ => (0 : EReal))
      (fun t j => ∑ r : Fin 20000, (fun i : Fin 320000 => hit (labAt (V c (Pipeline.arrRef spec1 2)) i) (j 0).val * termT (labAt (V c (Pipeline.arrRef spec1 2)) i) (inv (rowAt (V c (Pipeline.arrRef spec1 0)) i)) fun k =>
      dotp (meanAt (V c (Pipeline.arrRef spec1 3)) (V c (Pipeline.arrRef spec1 5)) k) (rowAt (V c (Pipeline.arrRef spec1 0)) i)) ⟨t.val * 20000 + r.val, row_lt1 t r⟩)
      (fun t h j => by
        rw [outsAt1_A V c t h]; frame_out; idx_vars j; rw [sum_t]; simp only [sim_dp, blk1_2, blk1_0, blk1_3, blk1_5]; pointwise [k1_pay1]; rfl)
      (fun t h j => by
        rw [outsAt1_B V c t h]; frame_out; idx_vars j; rw [sum_t]; simp only [sim_dp, blk1_2, blk1_0, blk1_3, blk1_5]; rfl)
      (by decide) t1_15 rfl _).trans ?_
    rw [zero_add]
    exact sum_rows1 fun i => hit (labAt (V c (Pipeline.arrRef spec1 2)) i) j0.val * termT (labAt (V c (Pipeline.arrRef spec1 2)) i) (inv (rowAt (V c (Pipeline.arrRef spec1 0)) i)) fun k =>
      dotp (meanAt (V c (Pipeline.arrRef spec1 3)) (V c (Pipeline.arrRef spec1 5)) k) (rowAt (V c (Pipeline.arrRef spec1 0)) i)
  rw [key]
  rfl

/-- After the second pass: the feature losses of the rows of each label, in every lane. -/
theorem arr_c (s : Fin 16) (d : Fin 128) : ((dat1 V c).arrAt 7 cfg1.N : Vec Ideal S16x128 .f32) (ix2 s d)
    = ∑ i : Fin 320000, hit (labAt (V c (Pipeline.arrRef spec1 2)) i) s.val * termC (labAt (V c (Pipeline.arrRef spec1 2)) i) (inv (rowAt (V c (Pipeline.arrRef spec1 1)) i)) fun k =>
      dotp (meanAt (V c (Pipeline.arrRef spec1 4)) (V c (Pipeline.arrRef spec1 5)) k) (rowAt (V c (Pipeline.arrRef spec1 1)) i) := by
  have key : (dat1 V c).arrAt 7 cfg1.N = fun j : S16x128.Idx => ∑ i : Fin 320000, hit (labAt (V c (Pipeline.arrRef spec1 2)) i) (j 0).val * termC (labAt (V c (Pipeline.arrRef spec1 2)) i) (inv (rowAt (V c (Pipeline.arrRef spec1 1)) i)) fun k =>
      dotp (meanAt (V c (Pipeline.arrRef spec1 4)) (V c (Pipeline.arrRef spec1 5)) k) (rowAt (V c (Pipeline.arrRef spec1 1)) i) := by
    refine (dat1 V c).arrAt_eq_of_after_last 7 t1_15 (by decide +kernel) _ fun j => ?_
    idx_vars j
    blk_simp
    rw [after1_7]
    refine (Pipeline.eq_sum_fin_of_reset_step_apply_last (fun n h => (outsAt1 V c n h).2) 16 (fun _ => (0 : EReal))
      (fun t j => ∑ r : Fin 20000, (fun i : Fin 320000 => hit (labAt (V c (Pipeline.arrRef spec1 2)) i) (j 0).val * termC (labAt (V c (Pipeline.arrRef spec1 2)) i) (inv (rowAt (V c (Pipeline.arrRef spec1 1)) i)) fun k =>
      dotp (meanAt (V c (Pipeline.arrRef spec1 4)) (V c (Pipeline.arrRef spec1 5)) k) (rowAt (V c (Pipeline.arrRef spec1 1)) i)) ⟨t.val * 20000 + r.val, row_lt1 t r⟩)
      (fun t h j => by
        rw [outsAt1_A V c t h]; frame_out; idx_vars j; rw [sum_c]; simp only [mean_cf, blk1_2, blk1_1, blk1_4, blk1_5]; pointwise [k1_pay2]; rfl)
      (fun t h j => by
        rw [outsAt1_B V c t h]; frame_out; idx_vars j; rw [sum_c]; simp only [mean_cf, blk1_2, blk1_1, blk1_4, blk1_5]; rfl)
      (by decide) t1_15 rfl _).trans ?_
    rw [zero_add]
    exact sum_rows1 fun i => hit (labAt (V c (Pipeline.arrRef spec1 2)) i) j0.val * termC (labAt (V c (Pipeline.arrRef spec1 2)) i) (inv (rowAt (V c (Pipeline.arrRef spec1 1)) i)) fun k =>
      dotp (meanAt (V c (Pipeline.arrRef spec1 4)) (V c (Pipeline.arrRef spec1 5)) k) (rowAt (V c (Pipeline.arrRef spec1 1)) i)
  rw [key]
  rfl

end Cert.Proof
-- ==== Proof.HostTail.lean ====
/- The host operations after the second pass: from the counts and the two arrays of losses to the result. -/
module

public import proofs.«01_k».proof.Proof.Region1
public import Idealize.ShloMosaic.Lib.Claim
public import Idealize.ShloMosaic.Lib.Tactic.ValueTie

@[expose] public section

set_option maxRecDepth 16384

noncomputable section

namespace Cert.Proof

open Idealize.ShloMosaic Idealize.ShloMosaic.TcCoe
open Idealize.SL Idealize.SL.Sem
open Cert.KernelIdeal Cert.KernelIdeal.Gen

/-- The terms of the rows of label `s`, over the normalised means of all sixteen labels. -/
def lossSum (term : BitVec 32 → EReal → (Fin 16 → EReal) → EReal) (l : Fin 320000 → BitVec 32)
    (x : Fin 320000 → Fin 128 → EReal) (s : ℕ) : EReal :=
  ∑ i : Fin 320000, hit (l i) s * term (l i) (inv (x i)) fun k : Fin 16 => dotp (mu (segSum l x k.val) (cntSum l k.val)) (x i)

/-- What the kernel computes: the patch loss plus half the feature loss. -/
def lossK (l : Fin 320000 → BitVec 32) (x y : Fin 320000 → Fin 128 → EReal) : EReal :=
  meanOver (fun k => cntSum l (1 + k)) (fun k => lossSum termT l x (1 + k))
    + Ideal.ofBits .f32 0x3F000000#32 * meanOver (fun k => cntSum l (1 + k)) (fun k => lossSum termC l y (1 + k))

variable (m : (ℓ : Loc nD τ sig) → Buf (Elt Ideal) ℓ) (ρ : Dev nD → PrngReg) (c : Dev nD)

/-- The labels as the kernel lays them out are the labels of the argument. -/
theorem V1_lab : labAt (V1 m ρ c main_v0) = fun i => (m ((c : Thread nD τ).loc main_arg2) : Vec Ideal S320000 .i32) (ix1 i) := by
  funext i
  unfold labAt
  unfold_abbrev_sides
  after_results
  show (shapeCast S16x1x20000 (m ((c : Thread nD τ).loc main_arg2) : Vec Ideal S320000 .i32) shapeCasts_S320000_S16x1x20000) _ = _
  refine shapeCast_apply _ _ _ (ix1 i) ?_
  rw [Shape.rowMajor_val_one, Shape.rowMajor_val_three]
  show i.val = (i.val / 20000 * 1 + 0) * 20000 + i.val % 20000
  omega

/-- Lane 0 of the rows of labels 1 to 8. -/
def col (x : FVec Ideal S16x128 .f32) : FVec Ideal S8 .f32 :=
  shapeCast S8 (extractStridedSlice S8x1 ![1, 0] x slices_S16x128_S8x1_1_0) shapeCasts_S8x1_S8

/-- 1 for a label with at least three rows, else 0. -/
def present (n : FVec Ideal S16x128 .f32) : FVec Ideal S8 .f32 :=
  uitofp .f32 (cmpf .oge (col n) (broadcastInDim S8 ![] bcast_S_S8 (constant S_ .f32 0x40400000#32)))

/-- The mean over the labels present of a loss averaged over the rows of each. -/
def meanLoss (n t : FVec Ideal S16x128 .f32) : FVec Ideal S_ .f32 :=
  Host.divf (Host.reduceAdd (Host.divf (mulf (present n) (col t))
      (maximumf (col n) (broadcastInDim S8 ![] bcast_S_S8 (constant S_ .f32 0x3F800000#32))))
      (constant S_ .f32 0x00000000#32) reducesTo_S8_S_d0 h_S_)
    (Host.reduceAdd (present n) (constant S_ .f32 0x00000000#32) reducesTo_S8_S_d0 h_S_)

/-- The result is the patch loss plus half the feature loss. -/
theorem W4_result : (W4 m ρ c (Proc.devRef .tc main_v25) : FVec Ideal S_ .f32)
    = addf (F := Ideal) (φ := .f32) (meanLoss (W3 m ρ c (Proc.devRef .tc main_v1_2)) (W3 m ρ c (Proc.devRef .tc main_v2_0)))
        (mulf (constant S_ .f32 0x3F000000#32)
          (meanLoss (W3 m ρ c (Proc.devRef .tc main_v1_2)) (W3 m ρ c (Proc.devRef .tc main_v2_1)))) := by
  unfold_abbrev_sides
  after_results
  rfl

/-- The mean loss, index by index: the labels 1 to 8 are rows 1 to 8. -/
theorem meanLoss_apply (n t : FVec Ideal S16x128 .f32) (N T : ℕ → EReal)
    (hn : ∀ k : Fin 16, n (ix2 k 0) = N k.val) (ht : ∀ k : Fin 16, t (ix2 k 0) = T k.val) :
    meanLoss n t ix0 = meanOver (fun x => N (1 + x)) (fun x => T (1 + x)) := by
  pointwise [meanLoss, present, col]
  simp only [hn, ht]
  rfl

/-- The counts are what the first pass left. -/
theorem W3_cnt (k : Fin 16) : (W3 m ρ c (Proc.devRef .tc main_v1_2) : FVec Ideal S16x128 .f32) (ix2 k 0)
    = cntSum (labAt (V1 m ρ c main_v0)) k.val := by
  rw [W3_of m ρ c main_v1_2 (by decide +kernel), show W2 m ρ c (Proc.devRef .tc main_v1_2) = (dat0 (V1 m ρ) c).arrAt 5 cfg0.N from W2_arr m ρ c 5]
  exact arr_cnt (V1 m ρ) c k 0

/-- The second pass finds the mean of a label as the first pass left its sum and count: patches. -/
theorem V2_mean_dp (k : Fin 16) : meanAt (V2 m ρ c main_v1_0) (V2 m ρ c main_v1_2) k
    = mu (segSum (labAt (V1 m ρ c main_v0)) (rowAt (V1 m ρ c main_arg0)) k.val) (cntSum (labAt (V1 m ρ c main_v0)) k.val) := by
  unfold meanAt
  rw [← hF0 m ρ c 3, ← hF0 m ρ c 5]
  rw [arr_cnt (V1 m ρ) c k 0]
  simp only [arr_dp (V1 m ρ) c k]

/-- The second pass finds the mean of a label as the first pass left its sum and count: features. -/
theorem V2_mean_cf (k : Fin 16) : meanAt (V2 m ρ c main_v1_1) (V2 m ρ c main_v1_2) k
    = mu (segSum (labAt (V1 m ρ c main_v0)) (rowAt (V1 m ρ c main_arg1)) k.val) (cntSum (labAt (V1 m ρ c main_v0)) k.val) := by
  unfold meanAt
  rw [← hF0 m ρ c 4, ← hF0 m ρ c 5]
  rw [arr_cnt (V1 m ρ) c k 0]
  simp only [arr_cf (V1 m ρ) c k]

/-- The patch losses, over the arguments. -/
theorem W3_t (k : Fin 16) : (W3 m ρ c (Proc.devRef .tc main_v2_0) : FVec Ideal S16x128 .f32) (ix2 k 0)
    = lossSum termT (labAt (V1 m ρ c main_v0)) (rowAt (V1 m ρ c main_arg0)) k.val := by
  rw [show W3 m ρ c (Proc.devRef .tc main_v2_0) = (dat1 (V2 m ρ) c).arrAt 6 cfg1.N from W3_arr m ρ c 6]
  refine (arr_t (V2 m ρ) c k 0).trans ?_
  have hl : V2 m ρ c main_v0 = V1 m ρ c main_v0 := W2_of m ρ c main_v0 (by decide +kernel)
  have hx : V2 m ρ c main_arg0 = V1 m ρ c main_arg0 := W2_of m ρ c main_arg0 (by decide +kernel)
  have hm : ∀ k, meanAt (V2 m ρ c (Pipeline.arrRef spec1 3)) (V2 m ρ c (Pipeline.arrRef spec1 5)) k = _ := V2_mean_dp m ρ c
  simp only [hm]
  rw [show V2 m ρ c (Pipeline.arrRef spec1 2) = V1 m ρ c main_v0 from hl, show V2 m ρ c (Pipeline.arrRef spec1 0) = V1 m ρ c main_arg0 from hx]
  rfl

/-- The feature losses, over the arguments. -/
theorem W3_c (k : Fin 16) : (W3 m ρ c (Proc.devRef .tc main_v2_1) : FVec Ideal S16x128 .f32) (ix2 k 0)
    = lossSum termC (labAt (V1 m ρ c main_v0)) (rowAt (V1 m ρ c main_arg1)) k.val := by
  rw [show W3 m ρ c (Proc.devRef .tc main_v2_1) = (dat1 (V2 m ρ) c).arrAt 7 cfg1.N from W3_arr m ρ c 7]
  refine (arr_c (V2 m ρ) c k 0).trans ?_
  have hl : V2 m ρ c main_v0 = V1 m ρ c main_v0 := W2_of m ρ c main_v0 (by decide +kernel)
  have hx : V2 m ρ c main_arg1 = V1 m ρ c main_arg1 := W2_of m ρ c main_arg1 (by decide +kernel)
  have hm : ∀ k, meanAt (V2 m ρ c (Pipeline.arrRef spec1 4)) (V2 m ρ c (Pipeline.arrRef spec1 5)) k = _ := V2_mean_cf m ρ c
  simp only [hm]
  rw [show V2 m ρ c (Pipeline.arrRef spec1 2) = V1 m ρ c main_v0 from hl, show V2 m ρ c (Pipeline.arrRef spec1 1) = V1 m ρ c main_arg1 from hx]
  rfl

/-- The kernel's result as plain mathematics of its arguments. -/
theorem kernel_value : (W4 m ρ c (Proc.devRef .tc main_v25) : FVec Ideal S_ .f32) ix0
    = lossK (fun i => (m ((c : Thread nD τ).loc main_arg2) : Vec Ideal S320000 .i32) (ix1 i))
        (rowAt (m ((c : Thread nD τ).loc main_arg0))) (rowAt (m ((c : Thread nD τ).loc main_arg1))) := by
  rw [W4_result]
  have ha : V1 m ρ c main_arg0 = m ((c : Thread nD τ).loc main_arg0) := W1_of m ρ c main_arg0 (by decide +kernel)
  have hb : V1 m ρ c main_arg1 = m ((c : Thread nD τ).loc main_arg1) := W1_of m ρ c main_arg1 (by decide +kernel)
  have ht := meanLoss_apply _ _ _ _ (W3_cnt m ρ c) (W3_t m ρ c)
  have hc := meanLoss_apply _ _ _ _ (W3_cnt m ρ c) (W3_c m ρ c)
  rw [V1_lab, ha] at ht
  rw [V1_lab, hb] at hc
  pointwise
  rw [ht, hc]
  rfl

end Cert.Proof
-- ==== Proof.Equation.lean ====
/- The equation: the kernel's loss and the reference's are the same function of the labels and the two tables. -/
module

public import proofs.«01_k».proof.Proof.Unit
public import proofs.«01_k».proof.Proof.HostTail
public import proofs.«01_k».proof.Proof.RefLoss

@[expose] public section

noncomputable section

namespace Cert.Proof

open Idealize.ShloMosaic

/-! ## A row's loss -/

/-- Minus the logarithm of one exponential's share of two is the logarithm of one plus the exponential of the
    difference, at real similarities. -/
theorem nll_coe (a b : ℝ) : Ref.nll (a : EReal) (b : EReal) = Ideal.log1p (Ideal.exp (((b : EReal) - (a : EReal)) * invTau)) := by
  have ht : (9395241 / 134217728 : ℝ) ≠ 0 := by norm_num
  have hd : ∀ z : ℝ, Ideal.div (z : EReal) tau = ((z * (134217728 / 9395241) : ℝ) : EReal) := by
    intro z
    unfold tau
    rw [Ideal.div_coe ht, ← EReal.coe_mul]
    norm_num
  unfold Ref.nll
  rw [hd, hd]
  unfold invTau
  rw [← EReal.coe_sub, ← EReal.coe_mul]
  simp only [Ideal.exp_coe]
  generalize hA : a * (134217728 / 9395241 : ℝ) = A
  generalize hB : b * (134217728 / 9395241 : ℝ) = B
  rw [show (b - a) * (134217728 / 9395241 : ℝ) = B - A by rw [← hA, ← hB]; ring]
  have hs : 0 < Real.exp A + Real.exp B := by positivity
  rw [← EReal.coe_add, Ideal.div_coe hs.ne', ← EReal.coe_mul]
  unfold Ideal.log1p
  rw [show (1 : EReal) + ((Real.exp (B - A) : ℝ) : EReal) = ((1 + Real.exp (B - A) : ℝ) : EReal) by push_cast; rfl]
  have hp : 0 < Real.exp A * (1 / (Real.exp A + Real.exp B)) := by positivity
  have hq : 0 < 1 + Real.exp (B - A) := by positivity
  rw [Ideal.log_coe, Ideal.log_coe, if_neg (not_le.mpr hp), if_neg (not_le.mpr hq), ← EReal.coe_neg]
  refine congrArg _ ?_
  rw [← Real.log_inv]
  refine congrArg _ ?_
  have h1 := Real.exp_pos A
  rw [Real.exp_sub]
  field_simp

/-! ## Counts and marks -/

/-- A sum of marks is the number of places marked. -/
theorem sum_marks {ι : Type*} [Fintype ι] (p : ι → Prop) [DecidablePred p] :
    ∑ i, (if p i then (1 : EReal) else 0) = (((Finset.univ.filter p).card : ℝ) : EReal) := by
  rw [show (fun i => if p i then (1 : EReal) else 0) = fun i => (((if p i then 1 else 0 : ℝ)) : EReal) from
    funext fun i => by split <;> rfl, coe_sum]
  simp

/-- A count is a natural number. -/
theorem cnt_nat (l : Fin 320000 → BitVec 32) (s : ℕ) :
    cntSum l s = (((Finset.univ.filter fun i => l i = BitVec.ofNat 32 s).card : ℝ) : EReal) := by
  exact sum_marks fun i => l i = BitVec.ofNat 32 s

/-- A floored count is a real that is not zero. -/
theorem max_cnt (l : Fin 320000 → BitVec 32) (s : ℕ) : ∃ r : ℝ, r ≠ 0 ∧ max (cntSum l s) 1 = (r : EReal) := by
  rw [cnt_nat]
  refine ⟨max ((Finset.univ.filter fun i => l i = BitVec.ofNat 32 s).card : ℝ) 1, (lt_max_of_lt_right one_pos).ne', ?_⟩
  exact (EReal.coe_strictMono.monotone.map_max).symm

/-- The kernel's segment sums are the sums of the normalised rows. -/
theorem segSum_eq (l : Fin 320000 → BitVec 32) (x : Fin 320000 → Fin 128 → EReal) (s : ℕ) (d : Fin 128) :
    segSum l x s d = ∑ i : Fin 320000, hit (l i) s * unit (x i) d :=
  Finset.sum_congr rfl fun i _ => by rw [unit_mul, mul_assoc, mul_comm (x i d)]

/-- The kernel's mean of a label is the reference's. -/
theorem mu_eq (l : Fin 320000 → BitVec 32) (x : Fin 320000 → Fin 128 → EReal) (s : ℕ) :
    mu (segSum l x s) (cntSum l s) = Ref.muSeg l x s :=
  congrArg (fun f => mu f (cntSum l s)) (funext fun d => segSum_eq l x s d)

/-- The zero row over its norm is zero. -/
theorem unit_zero (d : Fin 128) : unit (fun _ => 0) d = 0 := by
  rw [unit_mul, zero_mul]

/-- A row of infinities over its norm is zero. -/
theorem unit_bot (d : Fin 128) : unit (fun _ => ⊥) d = 0 := by
  rw [unit_mul]
  rcases ss_cases fun _ => ⊥ with h | ⟨s, _, h⟩
  · rw [show inv (fun _ => ⊥) = 0 by unfold inv; rw [h]; simp, mul_zero]
  · obtain ⟨r, hr⟩ := real_of_ss _ s h d
    exact absurd hr (EReal.bot_ne_coe r)

/-- The kernel's mean of the background is the reference's, whose count is not floored: with no background row both
    are the zero row, the reference's because each entry of its mean is infinite. -/
theorem bg_eq (l : Fin 320000 → BitVec 32) (x : Fin 320000 → Fin 128 → EReal) :
    mu (segSum l x 0) (cntSum l 0) = Ref.muBg l x := by
  have hs : ∀ d, segSum l x 0 d = ∑ i : Fin 320000, unit (x i) d * hit (l i) 0 := fun d => by
    rw [segSum_eq]
    exact Finset.sum_congr rfl fun i _ => mul_comm _ _
  have hc : Ref.cnt l 0 = cntSum l 0 := rfl
  unfold mu Ref.muBg
  rw [hc]
  by_cases h : (Finset.univ.filter fun i => l i = BitVec.ofNat 32 0).card = 0
  · have hz : cntSum l 0 = 0 := by rw [cnt_nat, h]; simp
    have hh : ∀ i, hit (l i) 0 = 0 := fun i => by
      unfold hit
      exact if_neg fun q => by
        rw [Finset.card_eq_zero, Finset.filter_eq_empty_iff] at h
        exact h (Finset.mem_univ i) q
    funext d
    simp only [hs, hh, hz, mul_zero, Finset.sum_const_zero]
    have h1 : Ideal.div 0 (max 0 1) = 0 := by
      rw [max_eq_right zero_le_one, Ideal.div, if_neg one_ne_zero, zero_mul]
    have h2 : Ideal.div 0 0 = ⊥ := by
      rw [Ideal.div, if_pos rfl, if_neg (lt_irrefl _)]
    rw [h1, h2, unit_zero, unit_bot]
  · have hm : max (cntSum l 0) 1 = cntSum l 0 := by
      rw [cnt_nat]
      refine max_eq_left ?_
      exact_mod_cast Nat.one_le_iff_ne_zero.mpr h
    rw [hm]
    simp only [hs]

/-! ## One row in the two losses -/

/-- Against a row of label `s`, the one-hot table picks entry `s`. -/
theorem pick (s : ℕ) (hs : s < 16) (f : Fin 16 → EReal) :
    ∑ k : Fin 16, f k * hit (BitVec.ofNat 32 s) k.val = f ⟨s, hs⟩ := by
  rw [Finset.sum_eq_single ⟨s, hs⟩]
  · rw [hit, if_pos rfl, mul_one]
  · intro k _ hk
    rw [hit, if_neg fun h => hk ?_, mul_zero]
    refine Fin.ext ?_
    have := congrArg BitVec.toNat h
    simp only [BitVec.toNat_ofNat] at this
    have := k.isLt
    show k.val = s
    omega
  · exact fun h => absurd (Finset.mem_univ _) h

variable (l : Fin 320000 → BitVec 32) (x : Fin 320000 → Fin 128 → EReal)

/-- A label's mean is made of reals. -/
theorem muSeg_real (k : ℕ) : ∃ u : Fin 128 → ℝ, ∀ d, Ref.muSeg l x k d = (u d : EReal) := by
  unfold Ref.muSeg mu
  exact unit_real _

/-- The background's mean is made of reals. -/
theorem muBg_real : ∃ u : Fin 128 → ℝ, ∀ d, Ref.muBg l x d = (u d : EReal) := by
  unfold Ref.muBg
  exact unit_real _

/-- A similarity of the kernel, times the inverse norm, is the reference's. -/
theorem st_eq (k : ℕ) (i : Fin 320000) :
    dotp (mu (segSum l x k) (cntSum l k)) (x i) * inv (x i) = dotp (unit (x i)) (Ref.muSeg l x k) := by
  rw [mu_eq]
  exact dotp_inv _ _ (muSeg_real l x k)

/-- The patch losses of a label's rows are the same. -/
theorem patch_eq (s : ℕ) (hs : s < 16) : lossSum termT l x s = Ref.patchSum l x s := by
  refine Finset.sum_congr rfl fun i _ => ?_
  rw [mul_comm]
  by_cases h : l i = BitVec.ofNat 32 s
  · refine congrArg (· * hit (l i) s) ?_
    obtain ⟨a, ha⟩ := dotp_real (unit (x i)) (Ref.muSeg l x s) (unit_real (x i)) (muSeg_real l x s)
    obtain ⟨b, hb⟩ := dotp_real (unit (x i)) (Ref.muBg l x) (unit_real (x i)) (muBg_real l x)
    rw [ha, hb, nll_coe, ← ha, ← hb, h]
    unfold termT
    rw [pick s hs fun k : Fin 16 => dotp (mu (segSum l x k.val) (cntSum l k.val)) (x i) * inv (x i)]
    simp only [st_eq]
    rw [show Ref.muBg l x = Ref.muSeg l x ((0 : Fin 16) : ℕ) from (bg_eq l x).symm.trans (mu_eq l x 0)]
  · rw [hit, if_neg h, mul_zero, mul_zero]

/-- The feature losses of a label's rows are the same. -/
theorem feat_eq (s : ℕ) (hs : s < 16) : lossSum termC l x s = Ref.featSum l x s := by
  refine Finset.sum_congr rfl fun i _ => ?_
  rw [mul_comm]
  by_cases h : l i = BitVec.ofNat 32 s
  · refine congrArg (· * hit (l i) s) ?_
    obtain ⟨a, ha⟩ := dotp_real (unit (x i)) (Ref.muSeg l x s) (unit_real (x i)) (muSeg_real l x s)
    obtain ⟨b, hb⟩ := dotp_real (unit (x i)) (Ref.muBg l x) (unit_real (x i)) (muBg_real l x)
    rw [ha, hb, nll_coe, ← ha, ← hb, h]
    unfold termC
    rw [pick s hs fun k : Fin 16 => dotp (mu (segSum l x k.val) (cntSum l k.val)) (x i) * inv (x i)]
    simp only [st_eq]
    rw [show Ref.muBg l x = Ref.muSeg l x ((0 : Fin 16) : ℕ) from (bg_eq l x).symm.trans (mu_eq l x 0)]
  · rw [hit, if_neg h, mul_zero, mul_zero]

/-! ## The result -/

/-- The two ways to average agree: the mark may be multiplied before or after the division by a floored count. -/
theorem mean_eq (t u : ℕ → EReal) (h : ∀ k : Fin 8, t (1 + k.val) = u (1 + k.val)) :
    meanOver (fun k => cntSum l (1 + k)) (fun k => t (1 + k)) = Ref.avg (Ref.cnt l) u := by
  unfold meanOver Ref.avg
  refine congrArg (fun z => Ideal.div z (∑ k : Fin 8, ge3 (cntSum l (1 + k.val)))) (Finset.sum_congr rfl fun k _ => ?_)
  show Ideal.div (ge3 (cntSum l (1 + k.val)) * t (1 + k.val)) (max (cntSum l (1 + k.val)) 1)
    = ge3 (cntSum l (1 + k.val)) * Ideal.div (u (1 + k.val)) (max (cntSum l (1 + k.val)) 1)
  obtain ⟨r, hr, e⟩ := max_cnt l (1 + k.val)
  rw [e, Ideal.div_coe hr, Ideal.div_coe hr, mul_assoc, h]

/-- The kernel and the reference compute the same loss, whatever the labels and the tables. -/
theorem loss_eq (y : Fin 320000 → Fin 128 → EReal) : lossK l x y = Ref.lossR l x y := by
  unfold lossK Ref.lossR
  rw [mean_eq l (lossSum termT l x) (Ref.patchSum l x) fun k => patch_eq l x _ (by omega),
    mean_eq l (lossSum termC l y) (Ref.featSum l y) fun k => feat_eq l y _ (by omega)]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL Idealize.SL.Sem

/-- The reference runs, keeps its arguments and ends with every counter at zero. -/
theorem frame_ref : @Cert.quiescent_ReferenceIdeal Cert.ReferenceIdeal.Gen.facts := fun m g _ =>
  (θ_run Cert.ReferenceIdeal.defs _ _).mono
    (fun r h => ⟨fun c => (h c).2, sem_eq_zero_of_no_sems (by decide) r.2⟩) (Ref.run m g)

/-- The two constants named in the idealized kernel stand where the kernel has their rounded words. -/
theorem preserves : Cert.preserves_Kernel_KernelIdeal :=
  ⟨IdealRules.named_const.statement Cert.KernelIdeal.κ "eps_sq" .f32 0x179ABE15#32 _ rfl,
    IdealRules.named_const.statement Cert.KernelIdeal.κ "inv_tau" .f32 0x41649249#32 _ rfl⟩

/-- The kernel's result and the reference's, of the same arguments, are equal. -/
theorem results_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    (Ref.result (m ((c.tc : Thread Cert.KernelIdeal.nD Cert.KernelIdeal.τ).loc Cert.KernelIdeal.main_arg2))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) : FVec Ideal Cert.KernelIdeal.S_ .f32)
      = Cert.KernelIdeal.Gen.W4 m g c (Proc.devRef .tc Cert.KernelIdeal.main_v25) := by
  funext j
  rw [show j = ix0 from funext fun a => a.elim0]
  exact (Ref.result_read _ _ _).trans ((loss_eq _ _ _).symm.trans (kernel_value m g c).symm)

/-- From the same arguments, kernel and reference both run and end with equal results. -/
theorem algebraic : @Cert.algebraic_KernelIdeal_ReferenceIdeal Cert.KernelIdeal.Gen.facts Cert.ReferenceIdeal.Gen.facts := by
  intro m g m' g' _ hagree
  refine ⟨_, Cert.KernelIdeal.Gen.result_run m g, ?_⟩
  refine (θ_run Cert.ReferenceIdeal.defs _ _).mono (fun _ h c => ⟨(h c).1.trans ?_, (h c).2⟩) (Ref.run m' g')
  obtain ⟨h0, h1, h2⟩ := hagree c
  rw [h0, h1, h2]
  exact results_eq m g c

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_ref, preserves, algebraic⟩

end Cert.Proof

end
